-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11))
      ∧ r.2.sem = fun _ => 0)

def preserves_Kernel_KernelIdeal : Prop :=
  IdealRules.named_const.Statement Cert.KernelIdeal.κ "log2e_scale" .f32 0x3E16C740#32 (((Real.log 2)⁻¹ * (Real.sqrt 96)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v21_0)) (v1 : (c : Dev Cert.MergeIdeal.nD) → Buf (Elt Ideal) ((c.tc : Thread Cert.MergeIdeal.nD Cert.MergeIdeal.τ).loc Cert.MergeIdeal.main_v21_1)) (v2 : (c : Dev Cert.MergeIdeal.nD) → Buf (Elt Ideal) ((c.tc : Thread Cert.MergeIdeal.nD Cert.MergeIdeal.τ).loc Cert.MergeIdeal.main_v21_2)) (v3 : (c : Dev Cert.MergeIdeal.nD) → Buf (Elt Ideal) ((c.tc : Thread Cert.MergeIdeal.nD Cert.MergeIdeal.τ).loc Cert.MergeIdeal.main_v21_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v21_0) = v0 c
          ∧ r.2.mem ((c.tc : Thread Cert.MergeIdeal.nD Cert.MergeIdeal.τ).loc Cert.MergeIdeal.main_v21_1) = v1 c
          ∧ r.2.mem ((c.tc : Thread Cert.MergeIdeal.nD Cert.MergeIdeal.τ).loc Cert.MergeIdeal.main_v21_2) = v2 c
          ∧ r.2.mem ((c.tc : Thread Cert.MergeIdeal.nD Cert.MergeIdeal.τ).loc Cert.MergeIdeal.main_v21_3) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v43) = v0 c
          ∧ r.2.mem ((c.tc : Thread Cert.MergeReferenceIdeal.nD Cert.MergeReferenceIdeal.τ).loc Cert.MergeReferenceIdeal.main_v44) = v1 c
          ∧ r.2.mem ((c.tc : Thread Cert.MergeReferenceIdeal.nD Cert.MergeReferenceIdeal.τ).loc Cert.MergeReferenceIdeal.main_v45) = v2 c
          ∧ r.2.mem ((c.tc : Thread Cert.MergeReferenceIdeal.nD Cert.MergeReferenceIdeal.τ).loc Cert.MergeReferenceIdeal.main_v46) = v3 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Merge (hMerge := hMerge)
    ∧ quiescent_MergeIdeal (hMergeIdeal := hMergeIdeal)
    ∧ quiescent_MergeReferenceIdeal (hMergeReferenceIdeal := hMergeReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Merge_MergeIdeal
    ∧ algebraic_MergeIdeal_MergeReferenceIdeal (hMergeIdeal := hMergeIdeal) (hMergeReferenceIdeal := hMergeReferenceIdeal)
-- ==== Pre_finite.lean ====
abbrev S8x4096x8x96 : Shape := ⟨4, ![8, 4096, 8, 96]⟩
abbrev S8x4096x1024 : Shape := ⟨3, ![8, 4096, 1024]⟩
abbrev S8x4096x32 : Shape := ⟨3, ![8, 4096, 32]⟩
abbrev S_ : Shape := ⟨0, ![]⟩

class Facts : Prop where
  bcast_S_S8x4096x8x96 : S_.BroadcastsInDim S8x4096x8x96 (![] : Fin 0 → Fin S8x4096x8x96.rank)
  reducesTo_S8x4096x8x96_S_d0_1_2_3 : S8x4096x8x96.ReducesTo [0, 1, 2, 3] S_
  h_S_ : 0 < S_.numel
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x4096x32 : S_.BroadcastsInDim S8x4096x32 (![] : Fin 0 → Fin S8x4096x32.rank)
  reducesTo_S8x4096x32_S_d0_1_2 : S8x4096x32.ReducesTo [0, 1, 2] S_

variable [Facts]

def fn {F : FTy → Type} [FloatOps F] (main_arg0 : FVec F S8x4096x8x96 .f32) (main_arg1 : FVec F S8x4096x1024 .f32) (main_arg2 : FVec F S8x4096x32 .f32) : IVec S_ 1 :=
  let main_v0 : FVec F S8x4096x8x96 .f32 := Host.absf main_arg0
  let main_cst : FVec F S_ .f32 := constant S_ .f32 0x7F800000#32
  let main_v1 : FVec F S8x4096x8x96 .f32 := broadcastInDim S8x4096x8x96 ![] bcast_S_S8x4096x8x96 main_cst
  let main_v2 : IVec S8x4096x8x96 1 := cmpf .olt main_v0 main_v1
  let main_c : IVec S_ 1 := constantI S_ 1 1#1
  let main_v3 : IVec S_ 1 := (fun x v => Host.reduce IntOp.andi x v reducesTo_S8x4096x8x96_S_d0_1_2_3 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S8x4096x32 .f32 := Host.absf main_arg2
  let main_cst_2 : FVec F S_ .f32 := constant S_ .f32 0x7F800000#32
  let main_v10 : FVec F S8x4096x32 .f32 := broadcastInDim S8x4096x32 ![] bcast_S_S8x4096x32 main_cst_2
  let main_v11 : IVec S8x4096x32 1 := cmpf .olt main_v9 main_v10
  let main_c_3 : IVec S_ 1 := constantI S_ 1 1#1
  let main_v12 : IVec S_ 1 := (fun x v => Host.reduce IntOp.andi x v reducesTo_S8x4096x32_S_d0_1_2 h_S_) main_v11 main_c_3
  let main_v13 : IVec S_ 1 := andi main_v8 main_v12
  main_v13
-- ==== Kernel.lean ====
abbrev S8x4096x8x96 : Shape := ⟨4, ![8, 4096, 8, 96]⟩
abbrev S8x4096x1024 : Shape := ⟨3, ![8, 4096, 1024]⟩
abbrev S8x4096x32 : Shape := ⟨3, ![8, 4096, 32]⟩
abbrev S_ : Shape := ⟨0, ![]⟩
abbrev S8x4096x8x128 : Shape := ⟨4, ![8, 4096, 8, 128]⟩
abbrev S8x16x256x1024 : Shape := ⟨4, ![8, 16, 256, 1024]⟩
abbrev S8x16x1024x256 : Shape := ⟨4, ![8, 16, 1024, 256]⟩
abbrev S8x4096x128 : Shape := ⟨3, ![8, 4096, 128]⟩
abbrev S8x4096x512 : Shape := ⟨3, ![8, 4096, 512]⟩
abbrev S1x4096x256 : Shape := ⟨3, ![1, 4096, 256]⟩
abbrev S1x4096x128 : Shape := ⟨3, ![1, 4096, 128]⟩
abbrev S1x16x256x256 : Shape := ⟨4, ![1, 16, 256, 256]⟩
abbrev S2x128x4096 : Shape := ⟨3, ![2, 128, 4096]⟩
abbrev S256x128 : Shape := ⟨2, ![256, 128]⟩
abbrev S4096x128 : Shape := ⟨2, ![4096, 128]⟩
abbrev S128x4096 : Shape := ⟨2, ![128, 4096]⟩
abbrev S1x4096 : Shape := ⟨2, ![1, 4096]⟩
abbrev S1x256x128 : Shape := ⟨3, ![1, 256, 128]⟩
abbrev S256x4096 : Shape := ⟨2, ![256, 4096]⟩
abbrev S1x1x128x256 : Shape := ⟨4, ![1, 1, 128, 256]⟩
abbrev S128x256 : Shape := ⟨2, ![128, 256]⟩
abbrev S4096 : Shape := ⟨1, ![4096]⟩
abbrev S1x128x4096 : Shape := ⟨3, ![1, 128, 4096]⟩
abbrev S256x3840 : Shape := ⟨2, ![256, 3840]⟩
abbrev S128x3840 : Shape := ⟨2, ![128, 3840]⟩
abbrev S1x3840 : Shape := ⟨2, ![1, 3840]⟩
abbrev S3840 : Shape := ⟨1, ![3840]⟩
abbrev S1x256 : Shape := ⟨2, ![1, 256]⟩
abbrev S1x128x3840 : Shape := ⟨3, ![1, 128, 3840]⟩
abbrev S256x3584 : Shape := ⟨2, ![256, 3584]⟩
abbrev S128x3584 : Shape := ⟨2, ![128, 3584]⟩
abbrev S1x3584 : Shape := ⟨2, ![1, 3584]⟩
abbrev S3584 : Shape := ⟨1, ![3584]⟩
abbrev S1x512 : Shape := ⟨2, ![1, 512]⟩
abbrev S1x128x3584 : Shape := ⟨3, ![1, 128, 3584]⟩
abbrev S256x3328 : Shape := ⟨2, ![256, 3328]⟩
abbrev S128x3328 : Shape := ⟨2, ![128, 3328]⟩
abbrev S1x3328 : Shape := ⟨2, ![1, 3328]⟩
abbrev S3328 : Shape := ⟨1, ![3328]⟩
abbrev S1x768 : Shape := ⟨2, ![1, 768]⟩
abbrev S1x128x3328 : Shape := ⟨3, ![1, 128, 3328]⟩
abbrev S256x3072 : Shape := ⟨2, ![256, 3072]⟩
abbrev S128x3072 : Shape := ⟨2, ![128, 3072]⟩
abbrev S1x3072 : Shape := ⟨2, ![1, 3072]⟩
abbrev S3072 : Shape := ⟨1, ![3072]⟩
abbrev S1x1024 : Shape := ⟨2, ![1, 1024]⟩
abbrev S1x128x3072 : Shape := ⟨3, ![1, 128, 3072]⟩
abbrev S256x2816 : Shape := ⟨2, ![256, 2816]⟩
abbrev S128x2816 : Shape := ⟨2, ![128, 2816]⟩
abbrev S1x2816 : Shape := ⟨2, ![1, 2816]⟩
abbrev S2816 : Shape := ⟨1, ![2816]⟩
abbrev S1x1280 : Shape := ⟨2, ![1, 1280]⟩
abbrev S1x128x2816 : Shape := ⟨3, ![1, 128, 2816]⟩
abbrev S256x2560 : Shape := ⟨2, ![256, 2560]⟩
abbrev S128x2560 : Shape := ⟨2, ![128, 2560]⟩
abbrev S1x2560 : Shape := ⟨2, ![1, 2560]⟩
abbrev S2560 : Shape := ⟨1, ![2560]⟩
abbrev S1x1536 : Shape := ⟨2, ![1, 1536]⟩
abbrev S1x128x2560 : Shape := ⟨3, ![1, 128, 2560]⟩
abbrev S256x2304 : Shape := ⟨2, ![256, 2304]⟩
abbrev S128x2304 : Shape := ⟨2, ![128, 2304]⟩
abbrev S1x2304 : Shape := ⟨2, ![1, 2304]⟩
abbrev S2304 : Shape := ⟨1, ![2304]⟩
abbrev S1x1792 : Shape := ⟨2, ![1, 1792]⟩
abbrev S1x128x2304 : Shape := ⟨3, ![1, 128, 2304]⟩
abbrev S256x2048 : Shape := ⟨2, ![256, 2048]⟩
abbrev S128x2048 : Shape := ⟨2, ![128, 2048]⟩
abbrev S1x2048 : Shape := ⟨2, ![1, 2048]⟩
abbrev S2048 : Shape := ⟨1, ![2048]⟩
abbrev S1x128x2048 : Shape := ⟨3, ![1, 128, 2048]⟩
abbrev S256x1792 : Shape := ⟨2, ![256, 1792]⟩
abbrev S128x1792 : Shape := ⟨2, ![128, 1792]⟩
abbrev S1792 : Shape := ⟨1, ![1792]⟩
abbrev S1x128x1792 : Shape := ⟨3, ![1, 128, 1792]⟩
abbrev S256x1536 : Shape := ⟨2, ![256, 1536]⟩
abbrev S128x1536 : Shape := ⟨2, ![128, 1536]⟩
abbrev S1536 : Shape := ⟨1, ![1536]⟩
abbrev S1x128x1536 : Shape := ⟨3, ![1, 128, 1536]⟩
abbrev S256x1280 : Shape := ⟨2, ![256, 1280]⟩
abbrev S128x1280 : Shape := ⟨2, ![128, 1280]⟩
abbrev S1280 : Shape := ⟨1, ![1280]⟩
abbrev S1x128x1280 : Shape := ⟨3, ![1, 128, 1280]⟩
abbrev S256x1024 : Shape := ⟨2, ![256, 1024]⟩
abbrev S128x1024 : Shape := ⟨2, ![128, 1024]⟩
abbrev S1024 : Shape := ⟨1, ![1024]⟩
abbrev S1x128x1024 : Shape := ⟨3, ![1, 128, 1024]⟩
abbrev S256x768 : Shape := ⟨2, ![256, 768]⟩
abbrev S128x768 : Shape := ⟨2, ![128, 768]⟩
abbrev S768 : Shape := ⟨1, ![768]⟩
abbrev S1x128x768 : Shape := ⟨3, ![1, 128, 768]⟩
abbrev S256x512 : Shape := ⟨2, ![256, 512]⟩
abbrev S128x512 : Shape := ⟨2, ![128, 512]⟩
abbrev S512 : Shape := ⟨1, ![512]⟩
abbrev S1x128x512 : Shape := ⟨3, ![1, 128, 512]⟩
abbrev S256x256 : Shape := ⟨2, ![256, 256]⟩
abbrev S256 : Shape := ⟨1, ![256]⟩
abbrev S1x128x256 : Shape := ⟨3, ![1, 128, 256]⟩
abbrev S64x4096 : Shape := ⟨2, ![64, 4096]⟩

abbrev nBuf : Space → Nat
  | .hbm => 17
  | .vmem => 11
  | .smem => 0
  | _ => 0

abbrev bufTy : (tb : Table) → Fin (tcTables nBuf tb) → BufTy
  | .hbm, ⟨0, _⟩ => ⟨S8x4096x8x96, .f32⟩
  | .hbm, ⟨1, _⟩ => ⟨S8x4096x1024, .f32⟩
  | .hbm, ⟨2, _⟩ => ⟨S8x4096x32, .f32⟩
  | .hbm, ⟨3, _⟩ => ⟨S_, .i32⟩
  | .hbm, ⟨4, _⟩ => ⟨S_, .f32⟩
  | .hbm, ⟨5, _⟩ => ⟨S8x4096x8x128, .f32⟩
  | .hbm, ⟨6, _⟩ => ⟨S8x4096x1024, .f32⟩
  | .hbm, ⟨7, _⟩ => ⟨S8x4096x1024, .bf16⟩
  | .hbm, ⟨8, _⟩ => ⟨S8x4096x1024, .bf16⟩
  | .hbm, ⟨9, _⟩ => ⟨S8x16x256x1024, .f32⟩
  | .hbm, ⟨10, _⟩ => ⟨S8x16x1024x256, .f32⟩
  | .hbm, ⟨11, _⟩ => ⟨S8x16x1024x256, .bf16⟩
  | .hbm, ⟨12, _⟩ => ⟨S_, .i32⟩
  | .hbm, ⟨13, _⟩ => ⟨S_, .f32⟩
  | .hbm, ⟨14, _⟩ => ⟨S8x4096x128, .f32⟩
  | .hbm, ⟨15, _⟩ => ⟨S8x4096x128, .bf16⟩
  | .hbm, ⟨16, _⟩ => ⟨S8x4096x512, .bf16⟩
  | .local _ .vmem, ⟨0, _⟩ => ⟨S1x4096x256, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x16x256x256, .bf16⟩
  | .local _ .vmem, ⟨7, _⟩ => ⟨S1x16x256x256, .bf16⟩
  | .local _ .vmem, ⟨8, _⟩ => ⟨S1x4096x128, .bf16⟩
  | .local _ .vmem, ⟨9, _⟩ => ⟨S1x4096x128, .bf16⟩
  | .local _ .vmem, ⟨10, _⟩ => ⟨S2x128x4096, .f32⟩
  | _, _ => ⟨S8x4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 1], ![false, false, false]⟩

@[reducible] def k0_t1_loop (i : grid0.Coords) : Scf.Loop 32 :=
  let c0_i32 : BitVec 32 := 0#32
  let c16_i32 : BitVec 32 := 16#32
  let arg2 : BitVec 32 := BitVec.ofNat 32 (i 2).val
  let v23 : BitVec 32 := Scalar.muli c16_i32 arg2
  let v24 : BitVec 32 := Scalar.subi v23 c0_i32
  let c1_i32 : BitVec 32 := 1#32
  let v26 : BitVec 32 := Scalar.divsi v24 c1_i32
  let v27 : BitVec 32 := Scalar.muli v26 c1_i32
  let v28 : BitVec 32 := Scalar.addi c0_i32 v27
  let c1_i32_13 : BitVec 32 := 1#32
  ⟨c0_i32, v28, c1_i32_13⟩
def k0_mult1 (i : grid0.Coords) (k0_t1 : Fin (k0_t1_loop i).trips) : BitVec 32 :=
  let c0_i32 : BitVec 32 := 0#32
  let c1_i32_13 : BitVec 32 := 1#32
  let arg9 : BitVec 32 := Scf.iv c0_i32 c1_i32_13 k0_t1
  let c256_i32_616 : BitVec 32 := 256#32
  let v1531 : BitVec 32 := Scalar.muli arg9 c256_i32_616
  v1531
def k0_off1 (i : grid0.Coords) (k0_t1 : Fin (k0_t1_loop i).trips) : Fin 3 → Nat :=
  let c0_617 : Index := 0#32
  let c0_i32 : BitVec 32 := 0#32
  let c1_i32_13 : BitVec 32 := 1#32
  let arg9 : BitVec 32 := Scf.iv c0_i32 c1_i32_13 k0_t1
  let c256_i32_616 : BitVec 32 := 256#32
  let v1531 : BitVec 32 := Scalar.muli arg9 c256_i32_616
  let v1532 : BitVec 32 := v1531
  let v1533 : Index := Scalar.indexCast v1532
  let c0_618 : Index := 0#32
  ![0, v1533.toNat, 0]
def k0_off2 (i : grid0.Coords) (k0_t1 : Fin (k0_t1_loop i).trips) : Fin 3 → Nat :=
  let c0_619 : Index := 0#32
  let c0_i32 : BitVec 32 := 0#32
  let c1_i32_13 : BitVec 32 := 1#32
  let arg9 : BitVec 32 := Scf.iv c0_i32 c1_i32_13 k0_t1
  let c256_i32_616 : BitVec 32 := 256#32
  let v1531 : BitVec 32 := Scalar.muli arg9 c256_i32_616
  let v1532 : BitVec 32 := v1531
  let v1536 : Index := Scalar.indexCast v1532
  let c0_620 : Index := 0#32
  ![0, v1536.toNat, 0]
def k0_off3 (i : grid0.Coords) (k0_t1 : Fin (k0_t1_loop i).trips) : Fin 3 → Nat :=
  let c0_623 : Index := 0#32
  let c0_i32 : BitVec 32 := 0#32
  let c1_i32_13 : BitVec 32 := 1#32
  let arg9 : BitVec 32 := Scf.iv c0_i32 c1_i32_13 k0_t1
  let c256_i32_616 : BitVec 32 := 256#32
  let v1531 : BitVec 32 := Scalar.muli arg9 c256_i32_616
  let v1532 : BitVec 32 := v1531
  let v1543 : Index := Scalar.indexCast v1532
  let c128_624 : Index := 128#32
  ![0, v1543.toNat, 128]
def k0_off4 (i : grid0.Coords) (k0_t1 : Fin (k0_t1_loop i).trips) : Fin 4 → Nat :=
  let c0_627 : Index := 0#32
  let c0_i32 : BitVec 32 := 0#32
  let c1_i32_13 : BitVec 32 := 1#32
  let arg9 : BitVec 32 := Scf.iv c0_i32 c1_i32_13 k0_t1
  let v1550 : Index := Scalar.indexCast arg9
  let c0_628 : Index := 0#32
  let c0_629 : Index := 0#32
  ![0, v1550.toNat, 0, 0]
def k0_off5 (i : grid0.Coords) (k0_t1 : Fin (k0_t1_loop i).trips) : Fin 4 → Nat :=
  let c0_630 : Index := 0#32
  let c0_i32 : BitVec 32 := 0#32
  let c1_i32_13 : BitVec 32 := 1#32
  let arg9 : BitVec 32 := Scf.iv c0_i32 c1_i32_13 k0_t1
  let v1553 : Index := Scalar.indexCast arg9
  let c128_631 : Index := 128#32
  let c0_632 : Index := 0#32
  ![0, v1553.toNat, 128, 0]
@[reducible] def k0_t2_loop (i : grid0.Coords) : Scf.Loop 32 :=
  let c0_i32 : BitVec 32 := 0#32
  let c16_i32 : BitVec 32 := 16#32
  let arg2 : BitVec 32 := BitVec.ofNat 32 (i 2).val
  let v23 : BitVec 32 := Scalar.muli c16_i32 arg2
  let v24 : BitVec 32 := Scalar.subi v23 c0_i32
  let c1_i32 : BitVec 32 := 1#32
  let v26 : BitVec 32 := Scalar.divsi v24 c1_i32
  let v27 : BitVec 32 := Scalar.muli v26 c1_i32
  let v28 : BitVec 32 := Scalar.addi c0_i32 v27
  let v25 : BitVec 32 := Scalar.addi c0_i32 v24
  let c1_i32_14 : BitVec 32 := 1#32
  ⟨v28, v25, c1_i32_14⟩
def k0_mult2 (i : grid0.Coords) (k0_t2 : Fin (k0_t2_loop i).trips) : BitVec 32 :=
  let c0_i32 : BitVec 32 := 0#32
  let c16_i32 : BitVec 32 := 16#32
  let arg2 : BitVec 32 := BitVec.ofNat 32 (i 2).val
  let v23 : BitVec 32 := Scalar.muli c16_i32 arg2
  let v24 : BitVec 32 := Scalar.subi v23 c0_i32
  let c1_i32 : BitVec 32 := 1#32
  let v26 : BitVec 32 := Scalar.divsi v24 c1_i32
  let v27 : BitVec 32 := Scalar.muli v26 c1_i32
  let v28 : BitVec 32 := Scalar.addi c0_i32 v27
  let c1_i32_14 : BitVec 32 := 1#32
  let arg9 : BitVec 32 := Scf.iv v28 c1_i32_14 k0_t2
  let c256_i32_616 : BitVec 32 := 256#32
  let v1531 : BitVec 32 := Scalar.muli arg9 c256_i32_616
  v1531
def k0_off6 (i : grid0.Coords) (k0_t2 : Fin (k0_t2_loop i).trips) : Fin 3 → Nat :=
  let c0_617 : Index := 0#32
  let c0_i32 : BitVec 32 := 0#32
  let c16_i32 : BitVec 32 := 16#32
  let arg2 : BitVec 32 := BitVec.ofNat 32 (i 2).val
  let v23 : BitVec 32 := Scalar.muli c16_i32 arg2
  let v24 : BitVec 32 := Scalar.subi v23 c0_i32
  let c1_i32 : BitVec 32 := 1#32
  let v26 : BitVec 32 := Scalar.divsi v24 c1_i32
  let v27 : BitVec 32 := Scalar.muli v26 c1_i32
  let v28 : BitVec 32 := Scalar.addi c0_i32 v27
  let c1_i32_14 : BitVec 32 := 1#32
  let arg9 : BitVec 32 := Scf.iv v28 c1_i32_14 k0_t2
  let c256_i32_616 : BitVec 32 := 256#32
  let v1531 : BitVec 32 := Scalar.muli arg9 c256_i32_616
  let v1532 : BitVec 32 := v1531
  let v1533 : Index := Scalar.indexCast v1532
  let c0_618 : Index := 0#32
  ![0, v1533.toNat, 0]
def k0_off7 (i : grid0.Coords) (k0_t2 : Fin (k0_t2_loop i).trips) : Fin 3 → Nat :=
  let c0_619 : Index := 0#32
  let c0_i32 : BitVec 32 := 0#32
  let c16_i32 : BitVec 32 := 16#32
  let arg2 : BitVec 32 := BitVec.ofNat 32 (i 2).val
  let v23 : BitVec 32 := Scalar.muli c16_i32 arg2
  let v24 : BitVec 32 := Scalar.subi v23 c0_i32
  let c1_i32 : BitVec 32 := 1#32
  let v26 : BitVec 32 := Scalar.divsi v24 c1_i32
  let v27 : BitVec 32 := Scalar.muli v26 c1_i32
  let v28 : BitVec 32 := Scalar.addi c0_i32 v27
  let c1_i32_14 : BitVec 32 := 1#32
  let arg9 : BitVec 32 := Scf.iv v28 c1_i32_14 k0_t2
  let c256_i32_616 : BitVec 32 := 256#32
  let v1531 : BitVec 32 := Scalar.muli arg9 c256_i32_616
  let v1532 : BitVec 32 := v1531
  let v1536 : Index := Scalar.indexCast v1532
  let c0_620 : Index := 0#32
  ![0, v1536.toNat, 0]
def k0_off8 (i : grid0.Coords) (k0_t2 : Fin (k0_t2_loop i).trips) : Fin 3 → Nat :=
  let c0_623 : Index := 0#32
  let c0_i32 : BitVec 32 := 0#32
  let c16_i32 : BitVec 32 := 16#32
  let arg2 : BitVec 32 := BitVec.ofNat 32 (i 2).val
  let v23 : BitVec 32 := Scalar.muli c16_i32 arg2
  let v24 : BitVec 32 := Scalar.subi v23 c0_i32
  let c1_i32 : BitVec 32 := 1#32
  let v26 : BitVec 32 := Scalar.divsi v24 c1_i32
  let v27 : BitVec 32 := Scalar.muli v26 c1_i32
  let v28 : BitVec 32 := Scalar.addi c0_i32 v27
  let c1_i32_14 : BitVec 32 := 1#32
  let arg9 : BitVec 32 := Scf.iv v28 c1_i32_14 k0_t2
  let c256_i32_616 : BitVec 32 := 256#32
  let v1531 : BitVec 32 := Scalar.muli arg9 c256_i32_616
  let v1532 : BitVec 32 := v1531
  let v1543 : Index := Scalar.indexCast v1532
  let c128_624 : Index := 128#32
  ![0, v1543.toNat, 128]
def k0_off9 (i : grid0.Coords) (k0_t2 : Fin (k0_t2_loop i).trips) : Fin 4 → Nat :=
  let c0_627 : Index := 0#32
  let c0_i32 : BitVec 32 := 0#32
  let c16_i32 : BitVec 32 := 16#32
  let arg2 : BitVec 32 := BitVec.ofNat 32 (i 2).val
  let v23 : BitVec 32 := Scalar.muli c16_i32 arg2
  let v24 : BitVec 32 := Scalar.subi v23 c0_i32
  let c1_i32 : BitVec 32 := 1#32
  let v26 : BitVec 32 := Scalar.divsi v24 c1_i32
  let v27 : BitVec 32 := Scalar.muli v26 c1_i32
  let v28 : BitVec 32 := Scalar.addi c0_i32 v27
  let c1_i32_14 : BitVec 32 := 1#32
  let arg9 : BitVec 32 := Scf.iv v28 c1_i32_14 k0_t2
  let v1550 : Index := Scalar.indexCast arg9
  let c0_628 : Index := 0#32
  let c0_629 : Index := 0#32
  ![0, v1550.toNat, 0, 0]
def k0_off10 (i : grid0.Coords) (k0_t2 : Fin (k0_t2_loop i).trips) : Fin 4 → Nat :=
  let c0_630 : Index := 0#32
  let c0_i32 : BitVec 32 := 0#32
  let c16_i32 : BitVec 32 := 16#32
  let arg2 : BitVec 32 := BitVec.ofNat 32 (i 2).val
  let v23 : BitVec 32 := Scalar.muli c16_i32 arg2
  let v24 : BitVec 32 := Scalar.subi v23 c0_i32
  let c1_i32 : BitVec 32 := 1#32
  let v26 : BitVec 32 := Scalar.divsi v24 c1_i32
  let v27 : BitVec 32 := Scalar.muli v26 c1_i32
  let v28 : BitVec 32 := Scalar.addi c0_i32 v27
  let c1_i32_14 : BitVec 32 := 1#32
  let arg9 : BitVec 32 := Scf.iv v28 c1_i32_14 k0_t2
  let v1553 : Index := Scalar.indexCast arg9
  let c128_631 : Index := 128#32
  let c0_632 : Index := 0#32
  ![0, v1553.toNat, 128, 0]
def k0_mult3 (i : grid0.Coords) : BitVec 32 :=
  let c16_i32_15 : BitVec 32 := 16#32
  let arg2 : BitVec 32 := BitVec.ofNat 32 (i 2).val
  let v33 : BitVec 32 := Scalar.muli c16_i32_15 arg2
  let c0_i32_16 : BitVec 32 := 0#32
  let v34 : BitVec 32 := Scalar.addi v33 c0_i32_16
  let c256_i32 : BitVec 32 := 256#32
  let v36 : BitVec 32 := Scalar.muli v34 c256_i32
  v36
def k0_off11 (i : grid0.Coords) (c0_i32_16 : BitVec 32) : Fin 3 → Nat :=
  let c0_17 : Index := 0#32
  let c16_i32_15 : BitVec 32 := 16#32
  let arg2 : BitVec 32 := BitVec.ofNat 32 (i 2).val
  let v33 : BitVec 32 := Scalar.muli c16_i32_15 arg2
  let v34 : BitVec 32 := Scalar.addi v33 c0_i32_16
  let c256_i32 : BitVec 32 := 256#32
  let v36 : BitVec 32 := Scalar.muli v34 c256_i32
  let v37 : BitVec 32 := v36
  let v38 : Index := Scalar.indexCast v37
  let c0_18 : Index := 0#32
  ![0, v38.toNat, 0]
def k0_off12 (i : grid0.Coords) (c0_i32_16 : BitVec 32) : Fin 3 → Nat :=
  let c0_19 : Index := 0#32
  let c16_i32_15 : BitVec 32 := 16#32
  let arg2 : BitVec 32 := BitVec.ofNat 32 (i 2).val
  let v33 : BitVec 32 := Scalar.muli c16_i32_15 arg2
  let v34 : BitVec 32 := Scalar.addi v33 c0_i32_16
  let c256_i32 : BitVec 32 := 256#32
  let v36 : BitVec 32 := Scalar.muli v34 c256_i32
  let v37 : BitVec 32 := v36
  let v41 : Index := Scalar.indexCast v37
  let c0_20 : Index := 0#32
  ![0, v41.toNat, 0]
def k0_off13 (i : grid0.Coords) (c0_i32_16 : BitVec 32) : Fin 3 → Nat :=
  let c0_22 : Index := 0#32
  let c16_i32_15 : BitVec 32 := 16#32
  let arg2 : BitVec 32 := BitVec.ofNat 32 (i 2).val
  let v33 : BitVec 32 := Scalar.muli c16_i32_15 arg2
  let v34 : BitVec 32 := Scalar.addi v33 c0_i32_16
  let c256_i32 : BitVec 32 := 256#32
  let v36 : BitVec 32 := Scalar.muli v34 c256_i32
  let v37 : BitVec 32 := v36
  let v48 : Index := Scalar.indexCast v37
  let c128_23 : Index := 128#32
  ![0, v48.toNat, 128]
def k0_off14 (i : grid0.Coords) (c0_i32_16 : BitVec 32) : Fin 4 → Nat :=
  let c0_28 : Index := 0#32
  let c16_i32_15 : BitVec 32 := 16#32
  let arg2 : BitVec 32 := BitVec.ofNat 32 (i 2).val
  let v33 : BitVec 32 := Scalar.muli c16_i32_15 arg2
  let v34 : BitVec 32 := Scalar.addi v33 c0_i32_16
  let v59 : Index := Scalar.indexCast v34
  let c0_29 : Index := 0#32
  let c0_30 : Index := 0#32
  ![0, v59.toNat, 0, 0]
def k0_off15 (i : grid0.Coords) (c0_i32_16 : BitVec 32) : Fin 4 → Nat :=
  let c0_31 : Index := 0#32
  let c16_i32_15 : BitVec 32 := 16#32
  let arg2 : BitVec 32 := BitVec.ofNat 32 (i 2).val
  let v33 : BitVec 32 := Scalar.muli c16_i32_15 arg2
  let v34 : BitVec 32 := Scalar.addi v33 c0_i32_16
  let v62 : Index := Scalar.indexCast v34
  let c128_32 : Index := 128#32
  let c0_33 : Index := 0#32
  ![0, v62.toNat, 128, 0]
def k0_mult4 (i : grid0.Coords) : BitVec 32 :=
  let c16_i32_51 : BitVec 32 := 16#32
  let arg2 : BitVec 32 := BitVec.ofNat 32 (i 2).val
  let v111 : BitVec 32 := Scalar.muli c16_i32_51 arg2
  let c1_i32_52 : BitVec 32 := 1#32
  let v112 : BitVec 32 := Scalar.addi v111 c1_i32_52
  let c256_i32_53 : BitVec 32 := 256#32
  let v114 : BitVec 32 := Scalar.muli v112 c256_i32_53
  v114
def k0_mult5 (i : grid0.Coords) : BitVec 32 :=
  let c16_i32_89 : BitVec 32 := 16#32
  let arg2 : BitVec 32 := BitVec.ofNat 32 (i 2).val
  let v205 : BitVec 32 := Scalar.muli c16_i32_89 arg2
  let c2_i32 : BitVec 32 := 2#32
  let v206 : BitVec 32 := Scalar.addi v205 c2_i32
  let c256_i32_90 : BitVec 32 := 256#32
  let v208 : BitVec 32 := Scalar.muli v206 c256_i32_90
  v208
def k0_mult6 (i : grid0.Coords) : BitVec 32 :=
  let c16_i32_126 : BitVec 32 := 16#32
  let arg2 : BitVec 32 := BitVec.ofNat 32 (i 2).val
  let v299 : BitVec 32 := Scalar.muli c16_i32_126 arg2
  let c3_i32 : BitVec 32 := 3#32
  let v300 : BitVec 32 := Scalar.addi v299 c3_i32
  let c256_i32_127 : BitVec 32 := 256#32
  let v302 : BitVec 32 := Scalar.muli v300 c256_i32_127
  v302
def k0_mult7 (i : grid0.Coords) : BitVec 32 :=
  let c16_i32_163 : BitVec 32 := 16#32
  let arg2 : BitVec 32 := BitVec.ofNat 32 (i 2).val
  let v393 : BitVec 32 := Scalar.muli c16_i32_163 arg2
  let c4_i32 : BitVec 32 := 4#32
  let v394 : BitVec 32 := Scalar.addi v393 c4_i32
  let c256_i32_164 : BitVec 32 := 256#32
  let v396 : BitVec 32 := Scalar.muli v394 c256_i32_164
  v396
def k0_mult8 (i : grid0.Coords) : BitVec 32 :=
  let c16_i32_200 : BitVec 32 := 16#32
  let arg2 : BitVec 32 := BitVec.ofNat 32 (i 2).val
  let v487 : BitVec 32 := Scalar.muli c16_i32_200 arg2
  let c5_i32 : BitVec 32 := 5#32
  let v488 : BitVec 32 := Scalar.addi v487 c5_i32
  let c256_i32_201 : BitVec 32 := 256#32
  let v490 : BitVec 32 := Scalar.muli v488 c256_i32_201
  v490
def k0_mult9 (i : grid0.Coords) : BitVec 32 :=
  let c16_i32_237 : BitVec 32 := 16#32
  let arg2 : BitVec 32 := BitVec.ofNat 32 (i 2).val
  let v581 : BitVec 32 := Scalar.muli c16_i32_237 arg2
  let c6_i32 : BitVec 32 := 6#32
  let v582 : BitVec 32 := Scalar.addi v581 c6_i32
  let c256_i32_238 : BitVec 32 := 256#32
  let v584 : BitVec 32 := Scalar.muli v582 c256_i32_238
  v584
def k0_mult10 (i : grid0.Coords) : BitVec 32 :=
  let c16_i32_274 : BitVec 32 := 16#32
  let arg2 : BitVec 32 := BitVec.ofNat 32 (i 2).val
  let v675 : BitVec 32 := Scalar.muli c16_i32_274 arg2
  let c7_i32 : BitVec 32 := 7#32
  let v676 : BitVec 32 := Scalar.addi v675 c7_i32
  let c256_i32_275 : BitVec 32 := 256#32
  let v678 : BitVec 32 := Scalar.muli v676 c256_i32_275
  v678
def k0_mult11 (i : grid0.Coords) : BitVec 32 :=
  let c16_i32_311 : BitVec 32 := 16#32
  let arg2 : BitVec 32 := BitVec.ofNat 32 (i 2).val
  let v769 : BitVec 32 := Scalar.muli c16_i32_311 arg2
  let c8_i32 : BitVec 32 := 8#32
  let v770 : BitVec 32 := Scalar.addi v769 c8_i32
  let c256_i32_312 : BitVec 32 := 256#32
  let v772 : BitVec 32 := Scalar.muli v770 c256_i32_312
  v772
def k0_mult12 (i : grid0.Coords) : BitVec 32 :=
  let c16_i32_348 : BitVec 32 := 16#32
  let arg2 : BitVec 32 := BitVec.ofNat 32 (i 2).val
  let v863 : BitVec 32 := Scalar.muli c16_i32_348 arg2
  let c9_i32 : BitVec 32 := 9#32
  let v864 : BitVec 32 := Scalar.addi v863 c9_i32
  let c256_i32_349 : BitVec 32 := 256#32
  let v866 : BitVec 32 := Scalar.muli v864 c256_i32_349
  v866
def k0_mult13 (i : grid0.Coords) : BitVec 32 :=
  let c16_i32_385 : BitVec 32 := 16#32
  let arg2 : BitVec 32 := BitVec.ofNat 32 (i 2).val
  let v957 : BitVec 32 := Scalar.muli c16_i32_385 arg2
  let c10_i32 : BitVec 32 := 10#32
  let v958 : BitVec 32 := Scalar.addi v957 c10_i32
  let c256_i32_386 : BitVec 32 := 256#32
  let v960 : BitVec 32 := Scalar.muli v958 c256_i32_386
  v960
def k0_mult14 (i : grid0.Coords) : BitVec 32 :=
  let c16_i32_422 : BitVec 32 := 16#32
  let arg2 : BitVec 32 := BitVec.ofNat 32 (i 2).val
  let v1051 : BitVec 32 := Scalar.muli c16_i32_422 arg2
  let c11_i32 : BitVec 32 := 11#32
  let v1052 : BitVec 32 := Scalar.addi v1051 c11_i32
  let c256_i32_423 : BitVec 32 := 256#32
  let v1054 : BitVec 32 := Scalar.muli v1052 c256_i32_423
  v1054
def k0_mult15 (i : grid0.Coords) : BitVec 32 :=
  let c16_i32_459 : BitVec 32 := 16#32
  let arg2 : BitVec 32 := BitVec.ofNat 32 (i 2).val
  let v1145 : BitVec 32 := Scalar.muli c16_i32_459 arg2
  let c12_i32 : BitVec 32 := 12#32
  let v1146 : BitVec 32 := Scalar.addi v1145 c12_i32
  let c256_i32_460 : BitVec 32 := 256#32
  let v1148 : BitVec 32 := Scalar.muli v1146 c256_i32_460
  v1148
def k0_mult16 (i : grid0.Coords) : BitVec 32 :=
  let c16_i32_496 : BitVec 32 := 16#32
  let arg2 : BitVec 32 := BitVec.ofNat 32 (i 2).val
  let v1239 : BitVec 32 := Scalar.muli c16_i32_496 arg2
  let c13_i32 : BitVec 32 := 13#32
  let v1240 : BitVec 32 := Scalar.addi v1239 c13_i32
  let c256_i32_497 : BitVec 32 := 256#32
  let v1242 : BitVec 32 := Scalar.muli v1240 c256_i32_497
  v1242
def k0_mult17 (i : grid0.Coords) : BitVec 32 :=
  let c16_i32_533 : BitVec 32 := 16#32
  let arg2 : BitVec 32 := BitVec.ofNat 32 (i 2).val
  let v1333 : BitVec 32 := Scalar.muli c16_i32_533 arg2
  let c14_i32 : BitVec 32 := 14#32
  let v1334 : BitVec 32 := Scalar.addi v1333 c14_i32
  let c256_i32_534 : BitVec 32 := 256#32
  let v1336 : BitVec 32 := Scalar.muli v1334 c256_i32_534
  v1336
def k0_mult18 (i : grid0.Coords) : BitVec 32 :=
  let c16_i32_570 : BitVec 32 := 16#32
  let arg2 : BitVec 32 := BitVec.ofNat 32 (i 2).val
  let v1427 : BitVec 32 := Scalar.muli c16_i32_570 arg2
  let c15_i32 : BitVec 32 := 15#32
  let v1428 : BitVec 32 := Scalar.addi v1427 c15_i32
  let c256_i32_571 : BitVec 32 := 256#32
  let v1430 : BitVec 32 := Scalar.muli v1428 c256_i32_571
  v1430
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x16x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2e_scale" => some (((Real.log 2)⁻¹ * (Real.sqrt 96)⁻¹ : ℝ) : EReal)
  | "mask" => some ⊥
  | _ => none
-- ==== ReferenceIdeal.lean ====
abbrev S8x4096x8x96 : Shape := ⟨4, ![8, 4096, 8, 96]⟩
abbrev S8x4096x1024 : Shape := ⟨3, ![8, 4096, 1024]⟩
abbrev S8x4096x32 : Shape := ⟨3, ![8, 4096, 32]⟩
abbrev S8x4096x8x128 : Shape := ⟨4, ![8, 4096, 8, 128]⟩
abbrev S8x4096x8x64 : Shape := ⟨4, ![8, 4096, 8, 64]⟩
abbrev S8x4096x1x32 : Shape := ⟨4, ![8, 4096, 1, 32]⟩
abbrev S8x4096x8x32 : Shape := ⟨4, ![8, 4096, 8, 32]⟩
abbrev S8x8x4096x96 : Shape := ⟨4, ![8, 8, 4096, 96]⟩
abbrev S8x8x4096x64 : Shape := ⟨4, ![8, 8, 4096, 64]⟩
abbrev S8x8x4096x4096 : Shape := ⟨4, ![8, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x8x4096 : Shape := ⟨3, ![8, 8, 4096]⟩
abbrev S8x8x4096x1 : Shape := ⟨4, ![8, 8, 4096, 1]⟩
abbrev S8x4096x512 : Shape := ⟨3, ![8, 4096, 512]⟩

abbrev nBuf : Space → Nat
  | .hbm => 46
  | .vmem => 0
  | .smem => 0
  | _ => 0

abbrev bufTy : (tb : Table) → Fin (tcTables nBuf tb) → BufTy
  | .hbm, ⟨0, _⟩ => ⟨S8x4096x8x96, .f32⟩
  | .hbm, ⟨1, _⟩ => ⟨S8x4096x1024, .f32⟩
  | .hbm, ⟨2, _⟩ => ⟨S8x4096x32, .f32⟩
  | .hbm, ⟨3, _⟩ => ⟨S8x4096x8x128, .f32⟩
  | .hbm, ⟨4, _⟩ => ⟨S8x4096x8x64, .f32⟩
  | .hbm, ⟨5, _⟩ => ⟨S8x4096x8x64, .f32⟩
  | .hbm, ⟨6, _⟩ => ⟨S8x4096x1x32, .f32⟩
  | .hbm, ⟨7, _⟩ => ⟨S8x4096x8x32, .f32⟩
  | .hbm, ⟨8, _⟩ => ⟨S8x8x4096x96, .f32⟩
  | .hbm, ⟨9, _⟩ => ⟨S8x4096x8x96, .f32⟩
  | .hbm, ⟨10, _⟩ => ⟨S8x8x4096x96, .f32⟩
  | .hbm, ⟨11, _⟩ => ⟨S8x8x4096x64, .f32⟩
  | .hbm, ⟨12, _⟩ => ⟨S8x8x4096x4096, .f32⟩
  | .hbm, ⟨13, _⟩ => ⟨S_, .f32⟩
  | .hbm, ⟨14, _⟩ => ⟨S_, .f32⟩
  | .hbm, ⟨15, _⟩ => ⟨S8x8x4096x4096, .f32⟩
  | .hbm, ⟨16, _⟩ => ⟨S8x8x4096x4096, .f32⟩
  | .hbm, ⟨17, _⟩ => ⟨S4096, .i32⟩
  | .hbm, ⟨18, _⟩ => ⟨S1x4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S_, .f32⟩
  | .hbm, ⟨24, _⟩ => ⟨S_, .f32⟩
  | .hbm, ⟨25, _⟩ => ⟨S8x8x4096x4096, .i1⟩
  | .hbm, ⟨26, _⟩ => ⟨S8x8x4096x4096, .f32⟩
  | .hbm, ⟨27, _⟩ => ⟨S8x8x4096x4096, .f32⟩
  | .hbm, ⟨28, _⟩ => ⟨S_, .f32⟩
  | .hbm, ⟨29, _⟩ => ⟨S8x8x4096, .f32⟩
  | .hbm, ⟨30, _⟩ => ⟨S_, .f32⟩
  | .hbm, ⟨31, _⟩ => ⟨S8x8x4096, .f32⟩
  | .hbm, ⟨32, _⟩ => ⟨S8x8x4096, .f32⟩
  | .hbm, ⟨33, _⟩ => ⟨S8x8x4096x1, .f32⟩
  | .hbm, ⟨34, _⟩ => ⟨S8x8x4096x4096, .f32⟩
  | .hbm, ⟨35, _⟩ => ⟨S8x8x4096x4096, .f32⟩
  | .hbm, ⟨36, _⟩ => ⟨S8x8x4096x4096, .f32⟩
  | .hbm, ⟨37, _⟩ => ⟨S_, .f32⟩
  | .hbm, ⟨38, _⟩ => ⟨S8x8x4096, .f32⟩
  | .hbm, ⟨39, _⟩ => ⟨S8x8x4096x1, .f32⟩
  | .hbm, ⟨40, _⟩ => ⟨S8x8x4096x4096, .f32⟩
  | .hbm, ⟨41, _⟩ => ⟨S8x8x4096x4096, .f32⟩
  | .hbm, ⟨42, _⟩ => ⟨S8x8x4096x64, .f32⟩
  | .hbm, ⟨43, _⟩ => ⟨S8x4096x8x64, .f32⟩
  | .hbm, ⟨44, _⟩ => ⟨S8x4096x512, .f32⟩
  | .hbm, ⟨45, _⟩ => ⟨S8x4096x512, .bf16⟩
  | _, _ => ⟨S8x4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Merge.lean ====
abbrev S8x4096x1024 : Shape := ⟨3, ![8, 4096, 1024]⟩
abbrev S8x4096x512 : Shape := ⟨3, ![8, 4096, 512]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S8x128x128 : Shape := ⟨3, ![8, 128, 128]⟩
abbrev S32768x1024 : Shape := ⟨2, ![32768, 1024]⟩
abbrev S32768x512 : Shape := ⟨2, ![32768, 512]⟩
abbrev S8x4096x2048 : Shape := ⟨3, ![8, 4096, 2048]⟩
abbrev S_ : Shape := ⟨0, ![]⟩
abbrev S32768x2048 : Shape := ⟨2, ![32768, 2048]⟩
abbrev S1x1024 : Shape := ⟨2, ![1, 1024]⟩
abbrev S8x128x32768 : Shape := ⟨3, ![8, 128, 32768]⟩
abbrev S256x1024 : Shape := ⟨2, ![256, 1024]⟩
abbrev S256x512 : Shape := ⟨2, ![256, 512]⟩
abbrev S256x2048 : Shape := ⟨2, ![256, 2048]⟩
abbrev S8x128x256 : Shape := ⟨3, ![8, 128, 256]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩
abbrev S256x128 : Shape := ⟨2, ![256, 128]⟩
abbrev S128x256 : Shape := ⟨2, ![128, 256]⟩
abbrev S1x128x256 : Shape := ⟨3, ![1, 128, 256]⟩

abbrev nBuf : Space → Nat
  | .hbm => 39
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S8x4096x1024, .f32⟩
  | .hbm, ⟨4, _⟩ => ⟨S8x4096x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x2048, .f32⟩
  | .hbm, ⟨10, _⟩ => ⟨S8x128x128, .f32⟩
  | .hbm, ⟨11, _⟩ => ⟨S8x128x128, .f32⟩
  | .hbm, ⟨12, _⟩ => ⟨S32768x1024, .f32⟩
  | .hbm, ⟨13, _⟩ => ⟨S32768x512, .f32⟩
  | .hbm, ⟨14, _⟩ => ⟨S32768x512, .bf16⟩
  | .hbm, ⟨15, _⟩ => ⟨S32768x512, .f32⟩
  | .hbm, ⟨16, _⟩ => ⟨S32768x512, .bf16⟩
  | .hbm, ⟨17, _⟩ => ⟨S8x4096x2048, .f32⟩
  | .hbm, ⟨18, _⟩ => ⟨S8x4096x2048, .f32⟩
  | .hbm, ⟨19, _⟩ => ⟨S8x4096x2048, .f32⟩
  | .hbm, ⟨20, _⟩ => ⟨S_, .f32⟩
  | .hbm, ⟨21, _⟩ => ⟨S8x4096x2048, .f32⟩
  | .hbm, ⟨22, _⟩ => ⟨S8x4096x2048, .f32⟩
  | .hbm, ⟨23, _⟩ => ⟨S_, .f32⟩
  | .hbm, ⟨24, _⟩ => ⟨S8x4096x2048, .f32⟩
  | .hbm, ⟨25, _⟩ => ⟨S8x4096x2048, .f32⟩
  | .hbm, ⟨26, _⟩ => ⟨S32768x2048, .f32⟩
  | .hbm, ⟨27, _⟩ => ⟨S32768x2048, .bf16⟩
  | .hbm, ⟨28, _⟩ => ⟨S512x1024, .bf16⟩
  | .hbm, ⟨29, _⟩ => ⟨S512x1024, .bf16⟩
  | .hbm, ⟨30, _⟩ => ⟨S1024x1024, .bf16⟩
  | .hbm, ⟨31, _⟩ => ⟨S1024x2048, .bf16⟩
  | .hbm, ⟨32, _⟩ => ⟨S8x128x128, .bf16⟩
  | .hbm, ⟨33, _⟩ => ⟨S8x128x128, .bf16⟩
  | .hbm, ⟨34, _⟩ => ⟨S1x1024, .f32⟩
  | .hbm, ⟨35, _⟩ => ⟨S32768x1024, .f32⟩
  | .hbm, ⟨36, _⟩ => ⟨S32768x1024, .bf16⟩
  | .hbm, ⟨37, _⟩ => ⟨S8x128x32768, .f32⟩
  | .hbm, ⟨38, _⟩ => ⟨S8x128x32768, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x2048, .bf16⟩
  | .local _ .vmem, ⟨7, _⟩ => ⟨S256x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x2048, .bf16⟩
  | .local _ .vmem, ⟨13, _⟩ => ⟨S8x128x128, .bf16⟩
  | .local _ .vmem, ⟨14, _⟩ => ⟨S8x128x128, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S8x128x256, .f32⟩
  | .local _ .vmem, ⟨20, _⟩ => ⟨S8x128x256, .f32⟩
  | .local _ .vmem, ⟨21, _⟩ => ⟨S8x128x256, .f32⟩
  | .local _ .vmem, ⟨22, _⟩ => ⟨S8x128x256, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21_0 : Ref sig .tc := ⟨.hbm, 35, rfl⟩
abbrev main_v21_1 : Ref sig .tc := ⟨.hbm, 36, rfl⟩
abbrev main_v21_2 : Ref sig .tc := ⟨.hbm, 37, rfl⟩
abbrev main_v21_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeReferenceIdeal.lean ====
abbrev S8x4096x1024 : Shape := ⟨3, ![8, 4096, 1024]⟩
abbrev S8x4096x512 : Shape := ⟨3, ![8, 4096, 512]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S8x128x128 : Shape := ⟨3, ![8, 128, 128]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩
abbrev S32768x2048 : Shape := ⟨2, ![32768, 2048]⟩
abbrev S32768x8x2x128 : Shape := ⟨4, ![32768, 8, 2, 128]⟩
abbrev S32768x8x1x128 : Shape := ⟨4, ![32768, 8, 1, 128]⟩
abbrev S32768x8x128 : Shape := ⟨3, ![32768, 8, 128]⟩
abbrev S8x128x32768 : Shape := ⟨3, ![8, 128, 32768]⟩

abbrev nBuf : Space → Nat
  | .hbm => 66
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S8x4096x1024, .f32⟩
  | .hbm, ⟨4, _⟩ => ⟨S8x4096x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x2048, .f32⟩
  | .hbm, ⟨10, _⟩ => ⟨S8x128x128, .f32⟩
  | .hbm, ⟨11, _⟩ => ⟨S8x128x128, .f32⟩
  | .hbm, ⟨12, _⟩ => ⟨S8x4096x1024, .f32⟩
  | .hbm, ⟨13, _⟩ => ⟨S8x4096x1024, .f32⟩
  | .hbm, ⟨14, _⟩ => ⟨S_, .f32⟩
  | .hbm, ⟨15, _⟩ => ⟨S8x4096x1024, .f32⟩
  | .hbm, ⟨16, _⟩ => ⟨S8x4096x1024, .f32⟩
  | .hbm, ⟨17, _⟩ => ⟨S_, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S_, .f32⟩
  | .hbm, ⟨25, _⟩ => ⟨S8x4096x1024, .f32⟩
  | .hbm, ⟨26, _⟩ => ⟨S8x4096x1024, .f32⟩
  | .hbm, ⟨27, _⟩ => ⟨S_, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S_, .f32⟩
  | .hbm, ⟨37, _⟩ => ⟨S8x4096, .f32⟩
  | .hbm, ⟨38, _⟩ => ⟨S8x4096x1, .f32⟩
  | .hbm, ⟨39, _⟩ => ⟨S_, .f32⟩
  | .hbm, ⟨40, _⟩ => ⟨S8x4096x1, .f32⟩
  | .hbm, ⟨41, _⟩ => ⟨S8x4096x1, .f32⟩
  | .hbm, ⟨42, _⟩ => ⟨S_, .f32⟩
  | .hbm, ⟨43, _⟩ => ⟨S8x4096x1, .f32⟩
  | .hbm, ⟨44, _⟩ => ⟨S8x4096x1, .f32⟩
  | .hbm, ⟨45, _⟩ => ⟨S8x4096x1, .f32⟩
  | .hbm, ⟨46, _⟩ => ⟨S8x4096x1024, .f32⟩
  | .hbm, ⟨47, _⟩ => ⟨S8x4096x1024, .f32⟩
  | .hbm, ⟨48, _⟩ => ⟨S1x1x1024, .f32⟩
  | .hbm, ⟨49, _⟩ => ⟨S8x4096x1024, .f32⟩
  | .hbm, ⟨50, _⟩ => ⟨S8x4096x1024, .f32⟩
  | .hbm, ⟨51, _⟩ => ⟨S32768x1024, .f32⟩
  | .hbm, ⟨52, _⟩ => ⟨S32768x2048, .f32⟩
  | .hbm, ⟨53, _⟩ => ⟨S32768x8x2x128, .f32⟩
  | .hbm, ⟨54, _⟩ => ⟨S32768x8x1x128, .f32⟩
  | .hbm, ⟨55, _⟩ => ⟨S32768x8x128, .f32⟩
  | .hbm, ⟨56, _⟩ => ⟨S8x128x32768, .f32⟩
  | .hbm, ⟨57, _⟩ => ⟨S32768x8x128, .f32⟩
  | .hbm, ⟨58, _⟩ => ⟨S32768x8x1x128, .f32⟩
  | .hbm, ⟨59, _⟩ => ⟨S32768x8x128, .f32⟩
  | .hbm, ⟨60, _⟩ => ⟨S8x128x32768, .f32⟩
  | .hbm, ⟨61, _⟩ => ⟨S32768x8x128, .f32⟩
  | .hbm, ⟨62, _⟩ => ⟨S32768x1024, .f32⟩
  | .hbm, ⟨63, _⟩ => ⟨S32768x1024, .bf16⟩
  | .hbm, ⟨64, _⟩ => ⟨S8x128x32768, .f32⟩
  | .hbm, ⟨65, _⟩ => ⟨S8x128x32768, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Proof.Step.lean ====
/- ONE STEP of the running softmax, as the kernel computes it: the keys and values of 256 more positions
   taken into the running maximum, the running sum and the running weighted sum of values of the query
   columns from `c0` on. The kernel has sixteen of these steps, each at its own column offset `c0` and its
   own number `w` of columns; here the step is written once, over `c0` and `w`. -/
module

public import proofs.«01_k».proof.Proof.Gen.KernelIdeal.Value

@[expose] public section

set_option maxRecDepth 16384

noncomputable section

namespace Cert.KernelIdeal.Attn

open Idealize.ShloMosaic Idealize.SL.Sem
open Cert.KernelIdeal Cert.KernelIdeal.Gen

variable {F : FTy → Type} [FloatOps F] [Named F]

/-- A matrix of `r` rows and `w` columns. -/
abbrev Mat (r w : Nat) : Shape := ⟨2, ![r, w]⟩

/-- What the operations of one step over `w` columns ask of their shapes. -/
structure Width (w : Nat) : Prop where
  rows : (Mat 256 w).Iotas .tc 32 [0]
  cols : (Mat 256 w).Iotas .tc 32 [1]
  scores : DotDims.WF (Mat 256 128) (Mat 128 w) (Mat 256 w) [1] [0] [0] [1] [] []
  values : DotDims.WF (Mat 128 256) (Mat 256 w) (Mat 128 w) [1] [0] [0] [1] [] []
  reduces : (Mat 256 w).Reduces [0] ⟨1, ![w]⟩
  asRow : Shape.ShapeCasts ⟨1, ![w]⟩ (Mat 1 w)
  toScores : (Mat 1 w).Broadcasts (Mat 256 w)
  toValues : (Mat 1 w).Broadcasts (Mat 128 w)
  drop : Shape.ShapeCasts ⟨3, ![1, 128, w]⟩ (Mat 128 w)
  add : Shape.ShapeCasts (Mat 128 w) ⟨3, ![1, 128, w]⟩

/-- What reading the columns from `c0` on, `w` of them, and writing them back ask of the shapes. -/
structure Cut (c0 w : Nat) : Prop where
  query : S128x4096.Slices ![0, c0] (Mat 128 w)
  row : S1x4096.Slices ![0, c0] (Mat 1 w)
  before : S1x4096.Slices ![0, 0] (Mat 1 c0)
  join : Shape.Concatenates [Mat 1 c0, Mat 1 w] S1x4096 1

/-- The keys of 256 positions: the first 64 features a head's own, the other 64 the ones all heads share. -/
def keys (kv kpe : Vec F S1x256x128 .bf16) : FVec F S256x128 .bf16 :=
  select (cmpi .slt (iota .tc S256x128 32 [1] iota_S256x128_d1_w32) (broadcast S256x128 64#32))
    (shapeCast S256x128 kv shapeCasts_S1x256x128_S256x128)
    (shapeCast S256x128 kpe shapeCasts_S1x256x128_S256x128)

/-- The masked scores of 256 keys against `w` query columns: key `i` against column `j` if `i ≤ j`. -/
def scores {w : Nat} (W : Width w) (k : FVec F S256x128 .bf16) (q : FVec F (Mat 128 w) .bf16) :
    FVec F (Mat 256 w) .f32 :=
  select (cmpi .sle (iota .tc (Mat 256 w) 32 [0] W.rows) (iota .tc (Mat 256 w) 32 [1] W.cols))
    (matmul ⟨[1], [0], [0], [1], [], [], W.scores⟩ none k q (constant (Mat 256 w) .f32 0x00000000#32))
    (broadcast (Mat 256 w) (Named.named κ "mask" 0xF149F2CA#32))

/-- The running maximum with these scores taken in. -/
def newMax {w : Nat} (W : Width w) (m : FVec F (Mat 1 w) .f32) (s : FVec F (Mat 256 w) .f32) :
    FVec F (Mat 1 w) .f32 :=
  maximumf m (shapeCast (Mat 1 w)
    (multiReduction .maximumf [0] ⟨1, ![w]⟩ s 0xFF800000#32 W.reduces (.inl rfl) rfl) W.asRow)

/-- The factor that rescales what was summed under the old maximum. -/
def rescale {w : Nat} (W : Width w) (m : FVec F (Mat 1 w) .f32) (s : FVec F (Mat 256 w) .f32) :
    FVec F (Mat 1 w) .f32 :=
  exp2 (subf m (newMax W m s))

/-- The weights of these keys under the new maximum. -/
def weights {w : Nat} (W : Width w) (m : FVec F (Mat 1 w) .f32) (s : FVec F (Mat 256 w) .f32) :
    FVec F (Mat 256 w) .f32 :=
  exp2 (subf s (broadcastTo (Mat 256 w) (newMax W m s) W.toScores))

/-- The running sum with these weights taken in. -/
def newSum {w : Nat} (W : Width w) (m l : FVec F (Mat 1 w) .f32) (s : FVec F (Mat 256 w) .f32) :
    FVec F (Mat 1 w) .f32 :=
  addf (mulf (rescale W m s) l) (shapeCast (Mat 1 w)
    (multiReduction .add [0] ⟨1, ![w]⟩ (weights W m s) 0x00000000#32 W.reduces (.inl rfl) rfl) W.asRow)

/-- The running weighted sum of values with these taken in. -/
def newAcc {w : Nat} (W : Width w) (m : FVec F (Mat 1 w) .f32) (s : FVec F (Mat 256 w) .f32)
    (v : Vec F S1x1x128x256 .bf16) (acc : Vec F ⟨3, ![1, 128, w]⟩ .f32) : FVec F ⟨3, ![1, 128, w]⟩ .f32 :=
  shapeCast ⟨3, ![1, 128, w]⟩
    (addf (mulf (broadcastTo (Mat 128 w) (rescale W m s) W.toValues) (shapeCast (Mat 128 w) acc W.drop))
      (matmul ⟨[1], [0], [0], [1], [], [], W.values⟩ none (shapeCast S128x256 v shapeCasts_S1x1x128x256_S128x256)
        (truncf .bf16 (weights W m s) bitsLt_bf16_f32) (constant (Mat 128 w) .f32 0x00000000#32))) W.add

/-- A row of 4096 with its columns from `c0` on replaced. -/
def put {c0 w : Nat} (C : Cut c0 w) (old : FVec F S1x4096 .f32) (new : FVec F (Mat 1 w) .f32) : FVec F S1x4096 .f32 :=
  concatenate S1x4096 1 [⟨Mat 1 c0, extractStridedSlice (Mat 1 c0) ![0, 0] old C.before⟩, ⟨Mat 1 w, new⟩] C.join

/-- What the two heads have accumulated: a maximum and a sum each, and what was written to the buffer of their
    weighted sums (last write first). -/
structure State (F : FTy → Type) where
  m0 : FVec F S1x4096 .f32
  l0 : FVec F S1x4096 .f32
  m1 : FVec F S1x4096 .f32
  l1 : FVec F S1x4096 .f32
  acc : List (View.Piece (Elt F) S2x128x4096 .f32)

/-- The keys and values of 256 positions, as the step loads them. -/
structure Loads (F : FTy → Type) where
  kpe : Vec F S1x256x128 .bf16
  k0 : Vec F S1x256x128 .bf16
  k1 : Vec F S1x256x128 .bf16
  v0 : Vec F S1x1x128x256 .bf16
  v1 : Vec F S1x1x128x256 .bf16

/-- The part of the buffer of weighted sums a step reads and writes for one head. -/
abbrev part (h c0 w : Nat) (hb : ∀ a, (![h, 0, c0] : Fin 3 → Nat) a + (![1, 128, w] : Fin 3 → Nat) a ≤ S2x128x4096.size a) :
    Rect S2x128x4096 :=
  Rect.unit ![h, 0, c0] ![1, 128, w] hb

/-- One step, over the columns from `c0` on. -/
def step (v : View sig .tc .vmem S2x128x4096 .f32) {c0 w : Nat} (W : Width w) (C : Cut c0 w)
    (h0 : ∀ a, (![0, 0, c0] : Fin 3 → Nat) a + (![1, 128, w] : Fin 3 → Nat) a ≤ S2x128x4096.size a)
    (h1 : ∀ a, (![1, 0, c0] : Fin 3 → Nat) a + (![1, 128, w] : Fin 3 → Nat) a ≤ S2x128x4096.size a)
    (q0 q1 : FVec F S128x4096 .bf16) (x : Loads F) (st : State F) : State F :=
  let s0 := scores W (keys x.k0 x.kpe) (extractStridedSlice (Mat 128 w) ![0, c0] q0 C.query)
  let s1 := scores W (keys x.k1 x.kpe) (extractStridedSlice (Mat 128 w) ![0, c0] q1 C.query)
  let m0 := extractStridedSlice (Mat 1 w) ![0, c0] st.m0 C.row
  let m1 := extractStridedSlice (Mat 1 w) ![0, c0] st.m1 C.row
  let L0 : List (View.Piece (Elt F) S2x128x4096 .f32) :=
    ⟨part 0 c0 w h0, newAcc W m0 s0 x.v0 (v.readCov st.acc (part 0 c0 w h0).toLoadRect)⟩ :: st.acc
  ⟨put C st.m0 (newMax W m0 s0),
   put C st.l0 (newSum W m0 (extractStridedSlice (Mat 1 w) ![0, c0] st.l0 C.row) s0),
   put C st.m1 (newMax W m1 s1),
   put C st.l1 (newSum W m1 (extractStridedSlice (Mat 1 w) ![0, c0] st.l1 C.row) s1),
   ⟨part 1 c0 w h1, newAcc W m1 s1 x.v1 (v.readCov L0 (part 1 c0 w h1).toLoadRect)⟩ :: L0⟩

/-- The first step, over all the columns: nothing is cut out and nothing put back. -/
def firstStep (v : View sig .tc .vmem S2x128x4096 .f32) (W : Width 4096)
    (h0 : ∀ a, (![0, 0, 0] : Fin 3 → Nat) a + (![1, 128, 4096] : Fin 3 → Nat) a ≤ S2x128x4096.size a)
    (h1 : ∀ a, (![1, 0, 0] : Fin 3 → Nat) a + (![1, 128, 4096] : Fin 3 → Nat) a ≤ S2x128x4096.size a)
    (q0 q1 : FVec F S128x4096 .bf16) (x : Loads F) (st : State F) : State F :=
  let s0 := scores W (keys x.k0 x.kpe) q0
  let s1 := scores W (keys x.k1 x.kpe) q1
  let L0 : List (View.Piece (Elt F) S2x128x4096 .f32) :=
    ⟨part 0 0 4096 h0, newAcc W st.m0 s0 x.v0 (v.readCov st.acc (part 0 0 4096 h0).toLoadRect)⟩ :: st.acc
  ⟨newMax W st.m0 s0, newSum W st.m0 st.l0 s0, newMax W st.m1 s1, newSum W st.m1 st.l1 s1,
   ⟨part 1 0 4096 h1, newAcc W st.m1 s1 x.v1 (v.readCov L0 (part 1 0 4096 h1).toLoadRect)⟩ :: L0⟩

/-- The two heads' quotients, the rows of their values side by side, queries along the rows. -/
def finish (l0 l1 : FVec F S1x4096 .f32) (a0 a1 : Vec F S1x128x4096 .f32) : FVec F S4096x128 .bf16 :=
  truncf .bf16 (transpose S4096x128 [1, 0]
    (concatenate S128x4096 0
      [⟨S64x4096, extractStridedSlice S64x4096 ![64, 0]
          (divf (shapeCast S128x4096 a0 shapeCasts_S1x128x4096_S128x4096)
            (broadcastTo S128x4096 l0 broadcasts_S1x4096_S128x4096)) slices_S128x4096_o64_0_S64x4096⟩,
       ⟨S64x4096, extractStridedSlice S64x4096 ![64, 0]
          (divf (shapeCast S128x4096 a1 shapeCasts_S1x128x4096_S128x4096)
            (broadcastTo S128x4096 l1 broadcasts_S1x4096_S128x4096)) slices_S128x4096_o64_0_S64x4096⟩]
      concatenates_S64x4096_S64x4096_S128x4096_d0)
    transposes_S128x4096_p1_0_S4096x128) bitsLt_bf16_f32

theorem width_shapes : ∀ a : Fin 16,
    ((Mat 256 (4096 - 256 * a.val)).Iotas .tc 32 [0] ∧ (Mat 256 (4096 - 256 * a.val)).Iotas .tc 32 [1]) ∧
    (DotDims.WF (Mat 256 128) (Mat 128 (4096 - 256 * a.val)) (Mat 256 (4096 - 256 * a.val)) [1] [0] [0] [1] [] [] ∧
      DotDims.WF (Mat 128 256) (Mat 256 (4096 - 256 * a.val)) (Mat 128 (4096 - 256 * a.val)) [1] [0] [0] [1] [] []) ∧
    ((Mat 256 (4096 - 256 * a.val)).Reduces [0] ⟨1, ![4096 - 256 * a.val]⟩ ∧
      Shape.ShapeCasts ⟨1, ![4096 - 256 * a.val]⟩ (Mat 1 (4096 - 256 * a.val))) ∧
    ((Mat 1 (4096 - 256 * a.val)).Broadcasts (Mat 256 (4096 - 256 * a.val)) ∧
      (Mat 1 (4096 - 256 * a.val)).Broadcasts (Mat 128 (4096 - 256 * a.val))) ∧
    (Shape.ShapeCasts ⟨3, ![1, 128, 4096 - 256 * a.val]⟩ (Mat 128 (4096 - 256 * a.val)) ∧
      Shape.ShapeCasts (Mat 128 (4096 - 256 * a.val)) ⟨3, ![1, 128, 4096 - 256 * a.val]⟩) := by
  decide +kernel

/-- The kernel's sixteen widths. -/
theorem width (a : Nat) (ha : a < 16) : Width (4096 - 256 * a) := by
  obtain ⟨⟨h1, h2⟩, ⟨h3, h4⟩, ⟨h5, h6⟩, ⟨h7, h8⟩, h9, h10⟩ := width_shapes ⟨a, ha⟩
  exact ⟨h1, h2, h3, h4, h5, h6, h7, h8, h9, h10⟩

theorem cut_shapes : ∀ a : Fin 16,
    (S128x4096.Slices ![0, 256 * a.val] (Mat 128 (4096 - 256 * a.val)) ∧
      S1x4096.Slices ![0, 256 * a.val] (Mat 1 (4096 - 256 * a.val))) ∧
    (S1x4096.Slices ![0, 0] (Mat 1 (256 * a.val)) ∧
      Shape.Concatenates [Mat 1 (256 * a.val), Mat 1 (4096 - 256 * a.val)] S1x4096 1) := by
  decide +kernel

/-- The kernel's column offsets. -/
theorem cut (a : Nat) (ha : a < 16) : Cut (256 * a) (4096 - 256 * a) := by
  obtain ⟨⟨h1, h2⟩, h3, h4⟩ := cut_shapes ⟨a, ha⟩
  exact ⟨h1, h2, h3, h4⟩

theorem part_inb (h c0 w : Nat) (hh : h < 2) (hc : c0 + w ≤ 4096) :
    ∀ a, (![h, 0, c0] : Fin 3 → Nat) a + (![1, 128, w] : Fin 3 → Nat) a ≤ S2x128x4096.size a := by
  intro a
  match a with
  | 0 => exact hh
  | 1 => exact Nat.le_refl 128
  | 2 => exact hc

/-- Step `a` of the kernel. -/
def stepAt (v : View sig .tc .vmem S2x128x4096 .f32) (q0 q1 : FVec F S128x4096 .bf16) (x : Loads F) (a : Nat)
    (ha : a < 16) (st : State F) : State F :=
  step v (width a ha) (cut a ha) (part_inb 0 _ _ (by decide) (by omega)) (part_inb 1 _ _ (by decide) (by omega))
    q0 q1 x st

end Cert.KernelIdeal.Attn
-- ==== Proof.Online.lean ====
/- THE RUNNING SOFTMAX, over the extended reals: a maximum, a sum of weights and a weighted sum of values taken over
   the first `N` keys stay what they are called when a block of further keys is taken in and what was summed is
   rescaled to the new maximum. And, over finite scores of which some are masked, what the quotient of the two
   sums is. -/
module

public import Idealize.ShloMosaic.PureOps.Ideal.Laws

@[expose] public section

noncomputable section

namespace Cert.Attn

open Idealize.ShloMosaic Finset

theorem exp2_nonneg (x : EReal) : 0 ≤ Ideal.exp2 x := by
  induction x with
  | bot => simp
  | top => simp
  | coe r => rw [Ideal.exp2_coe]; exact EReal.coe_nonneg.mpr (Real.rpow_nonneg (by norm_num) r)

theorem exp2_real (r : ℝ) : Ideal.exp2 (r : EReal) = (Real.exp (Real.log 2 * r) : ℝ) := by
  rw [Ideal.exp2_coe]
  exact congrArg _ (Real.rpow_def_of_pos (by norm_num) r)

/-- Weights under the old maximum, rescaled, are the weights under the new one. -/
theorem exp2_rescale {a m m' : EReal} (h : a ≤ m) (h' : m ≤ m') (ht : m' ≠ ⊤) :
    Ideal.exp2 (m - m') * Ideal.exp2 (a - m) = Ideal.exp2 (a - m') := by
  induction a with
  | bot => simp [sub_eq_add_neg]
  | top => exact absurd (top_le_iff.mp (h.trans h')) ht
  | coe a =>
    induction m with
    | bot => simp at h
    | top => exact absurd (top_le_iff.mp h') ht
    | coe m =>
      induction m' with
      | bot => simp at h'
      | top => exact absurd rfl ht
      | coe m' =>
        rw [← EReal.coe_sub, ← EReal.coe_sub, ← EReal.coe_sub, exp2_real, exp2_real, exp2_real, ← EReal.coe_mul, ← Real.exp_add]
        congr 2; ring

theorem exp2_ne_top {m m' : EReal} (h' : m ≤ m') (ht : m' ≠ ⊤) : Ideal.exp2 (m - m') ≠ ⊤ := by
  induction m with
  | bot => simp [sub_eq_add_neg]
  | top => exact absurd (top_le_iff.mp h') ht
  | coe m =>
    induction m' with
    | bot => simp at h'
    | top => exact absurd rfl ht
    | coe m' => rw [← EReal.coe_sub, exp2_real]; exact EReal.coe_ne_top _

theorem mul_sum_of_nonneg {ι : Type} {c : EReal} (h0 : 0 ≤ c) (ht : c ≠ ⊤) (s : Finset ι) (f : ι → EReal) :
    c * ∑ i ∈ s, f i = ∑ i ∈ s, c * f i := by
  classical
  induction s using Finset.induction_on with
  | empty => simp
  | insert a s ha ih => rw [sum_insert ha, sum_insert ha, EReal.left_distrib_of_nonneg_of_ne_top h0 ht, ih]

/-- The greatest of the first `N` scores. -/
def top (x : ℕ → EReal) (N : ℕ) : EReal := (range N).sup x

/-- The sum of the first `N` keys' values, each weighted by its score under the greatest. -/
def total (x v : ℕ → EReal) (N : ℕ) : EReal := ∑ i ∈ range N, v i * Ideal.exp2 (x i - top x N)

theorem top_add (x : ℕ → EReal) (N n : ℕ) : top x (N + n) = top x N ⊔ (range n).sup (fun i => x (N + i)) := by
  refine le_antisymm (Finset.sup_le fun i hi => ?_) (sup_le (Finset.sup_mono ?_) (Finset.sup_le fun i hi => ?_))
  · rcases Nat.lt_or_ge i N with h | h
    · exact le_sup_of_le_left (Finset.le_sup (f := x) (mem_range.mpr h))
    · obtain ⟨j, rfl⟩ := Nat.exists_eq_add_of_le h
      exact le_sup_of_le_right (Finset.le_sup (f := fun i => x (N + i)) (mem_range.mpr (by have := mem_range.mp hi; omega)))
  · intro i hi; exact mem_range.mpr (by have := mem_range.mp hi; omega)
  · exact Finset.le_sup (f := x) (mem_range.mpr (by have := mem_range.mp hi; omega))

theorem top_ne_top {x : ℕ → EReal} (hx : ∀ i, x i ≠ ⊤) (N : ℕ) : top x N ≠ ⊤ := by
  refine ((Finset.sup_lt_iff (by simp)).mpr fun i _ => ?_).ne
  exact lt_top_iff_ne_top.mpr (hx i)

/-- A block of `n` further keys taken in. -/
theorem total_add {x : ℕ → EReal} (v : ℕ → EReal) (hx : ∀ i, x i ≠ ⊤) (N n : ℕ) :
    Ideal.exp2 (top x N - top x (N + n)) * total x v N
      + ∑ i ∈ range n, v (N + i) * Ideal.exp2 (x (N + i) - top x (N + n)) = total x v (N + n) := by
  have hle : top x N ≤ top x (N + n) := by rw [top_add]; exact le_sup_left
  unfold total
  rw [mul_sum_of_nonneg (exp2_nonneg _) (exp2_ne_top hle (top_ne_top hx _)), sum_range_add]
  congr 1
  refine sum_congr rfl fun i hi => ?_
  have hi' : x i ≤ top x N := Finset.le_sup (f := x) hi
  rw [mul_left_comm, exp2_rescale hi' hle (top_ne_top hx _)]

/-- A block of masked keys changes nothing. -/
theorem top_add_masked {x : ℕ → EReal} (N n : ℕ) (h : ∀ i < n, x (N + i) = ⊥) : top x (N + n) = top x N := by
  rw [top_add]
  exact sup_eq_left.mpr (Finset.sup_le fun i hi => by rw [h i (mem_range.mp hi)]; exact bot_le)

theorem total_add_masked {x : ℕ → EReal} (v : ℕ → EReal) (N n : ℕ) (h : ∀ i < n, x (N + i) = ⊥) :
    total x v (N + n) = total x v N := by
  unfold total
  rw [top_add_masked N n h, sum_range_add]
  have : ∑ i ∈ range n, v (N + i) * Ideal.exp2 (x (N + i) - top x N) = 0 :=
    sum_eq_zero fun i hi => by rw [h i (mem_range.mp hi)]; simp [sub_eq_add_neg]
  rw [this, add_zero]

/-! ### Finite scores -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- The first `n` of the scores are numbers, the others masked. -/
def masked (f : ℕ → ℝ) (n : ℕ) (i : ℕ) : EReal := if i < n then (f i : EReal) else ⊥

theorem masked_ne_top (f : ℕ → ℝ) (n i : ℕ) : masked f n i ≠ ⊤ := by
  unfold masked
  split
  · exact EReal.coe_ne_top _
  · exact bot_ne_top

theorem top_masked (f : ℕ → ℝ) {n N : ℕ} (hn : 0 < n) (hN : n ≤ N) : ∃ r : ℝ, top (masked f n) N = r := by
  have h0 : (f 0 : EReal) ≤ top (masked f n) N := by
    have h := Finset.le_sup (f := masked f n) (mem_range.mpr (Nat.lt_of_lt_of_le hn hN))
    rwa [masked, if_pos hn] at h
  have ht := top_ne_top (masked_ne_top f n) N
  induction h : top (masked f n) N with
  | bot => rw [h] at h0; simp at h0
  | top => exact absurd h ht
  | coe r => exact ⟨r, rfl⟩

/-- A sum of values weighted by `e`, a power with exponent factor `k`, over masked scores: the factor of the maximum
    out of it, and the masked keys gone. -/
theorem sum_masked {e : EReal → EReal} {k : ℝ} (hb : e ⊥ = 0) (he : ∀ r : ℝ, e r = (Real.exp (k * r) : ℝ))
    (f v : ℕ → ℝ) {n N : ℕ} (hN : n ≤ N) (m : ℝ) :
    ∑ i ∈ range N, (v i : EReal) * e (masked f n i - (m : EReal))
      = ((Real.exp (-(k * m)) * ∑ i ∈ range n, v i * Real.exp (k * f i) : ℝ) : EReal) := by
  obtain ⟨d, rfl⟩ := Nat.exists_eq_add_of_le hN
  rw [sum_range_add, mul_sum, coe_sum]
  have : ∑ i ∈ range d, (v (n + i) : EReal) * e (masked f n (n + i) - (m : EReal)) = 0 :=
    sum_eq_zero fun i _ => by
      rw [masked, if_neg (by omega), sub_eq_add_neg, EReal.bot_add, hb, mul_zero]
  rw [this, add_zero]
  refine sum_congr rfl fun i hi => ?_
  rw [masked, if_pos (mem_range.mp hi), ← EReal.coe_sub, he, ← EReal.coe_mul]
  congr 1
  rw [mul_left_comm, ← Real.exp_add]
  congr 2
  ring

/-- Attention of one query: the values averaged by the exponentials of the scores of the first `n` keys. -/
def attend (f v : ℕ → ℝ) (n : ℕ) : ℝ :=
  (∑ i ∈ range n, v i * Real.exp (f i)) / ∑ i ∈ range n, Real.exp (f i)

theorem sum_exp_pos (f : ℕ → ℝ) {n : ℕ} (hn : 0 < n) : 0 < ∑ i ∈ range n, Real.exp (f i) :=
  sum_pos (fun _ _ => Real.exp_pos _) ⟨0, mem_range.mpr hn⟩

/-- The quotient of the two running sums, over scores in units of log 2. -/
theorem total_div (f g v : ℕ → ℝ) (hg : ∀ i, Real.log 2 * g i = f i) {n N : ℕ} (hn : 0 < n) (hN : n ≤ N) :
    Ideal.div (total (masked g n) (fun i => (v i : EReal)) N) (total (masked g n) (fun _ => 1) N) = (attend f v n : ℝ) := by
  obtain ⟨m, hm⟩ := top_masked g hn hN
  unfold total
  rw [hm, sum_masked Ideal.exp2_bot exp2_real g v hN m]
  have h1 := sum_masked Ideal.exp2_bot exp2_real g (fun _ => 1) hN m
  simp only [EReal.coe_one, one_mul] at h1 ⊢
  simp only [hg] at h1 ⊢
  rw [h1, Ideal.div_coe (mul_pos (Real.exp_pos _) (sum_exp_pos f hn)).ne', ← EReal.coe_mul]
  unfold attend
  have h2 := (sum_exp_pos f hn).ne'
  have h3 := (Real.exp_pos (-(Real.log 2 * m))).ne'
  congr 1
  field_simp

/-- The weights normalised first and the values averaged after, as the reference has it. -/
theorem normalized_sum (f v : ℕ → ℝ) {n N : ℕ} (hn : 0 < n) (hN : n ≤ N) :
    ∑ i ∈ range N, Ideal.div (Ideal.exp (masked f n i - top (masked f n) N))
        (∑ j ∈ range N, Ideal.exp (masked f n j - top (masked f n) N)) * (v i : EReal) = (attend f v n : ℝ) := by
  have he : ∀ r : ℝ, Ideal.exp r = (Real.exp (1 * r) : ℝ) := fun r => by rw [Ideal.exp_coe, one_mul]
  obtain ⟨m, hm⟩ := top_masked f hn hN
  have h1 := sum_masked Ideal.exp_bot he f (fun _ => 1) hN m
  have h2 := sum_masked Ideal.exp_bot he f v hN m
  simp only [EReal.coe_one, one_mul] at h1 h2
  have hL := (mul_pos (Real.exp_pos (-m)) (sum_exp_pos f hn)).ne'
  rw [hm, h1]
  simp only [Ideal.div_coe hL]
  have h3 : ∀ i, Ideal.exp (masked f n i - (m : EReal)) * ((1 / (Real.exp (-m) * ∑ i ∈ range n, Real.exp (f i)) : ℝ) : EReal) * (v i : EReal)
      = ((1 / (Real.exp (-m) * ∑ i ∈ range n, Real.exp (f i)) : ℝ) : EReal) * ((v i : EReal) * Ideal.exp (masked f n i - (m : EReal))) :=
    fun i => by rw [mul_comm (Ideal.exp _), mul_assoc, mul_comm (Ideal.exp _)]
  simp only [h3]
  rw [← mul_sum_of_nonneg (EReal.coe_nonneg.mpr ?_) (EReal.coe_ne_top _), h2, ← EReal.coe_mul]
  · unfold attend
    have h4 := (sum_exp_pos f hn).ne'
    have h5 := (Real.exp_pos (-m)).ne'
    congr 1
    field_simp
  · exact one_div_nonneg.mpr (mul_pos (Real.exp_pos _) (sum_exp_pos f hn)).le

end Cert.Attn
-- ==== Proof.StepValue.lean ====
/- THE STEP'S VALUES: what each part of a step (`Step.lean`) holds at an index, over the extended reals. -/
module

public import proofs.«01_k».proof.Proof.Step
public import proofs.«01_k».proof.Proof.Online
public import Idealize.ShloMosaic.Lib.Pointwise.Tactic
public import Idealize.ShloMosaic.Lib.Pointwise.Reduce
public import Idealize.ShloMosaic.Lib.MatmulPlain
public import Idealize.ShloMosaic.Lib.ValueLayout

@[expose] public section

set_option maxRecDepth 16384

noncomputable section

namespace Cert.KernelIdeal.Attn

open Idealize.ShloMosaic Idealize.SL.Sem
open Cert.KernelIdeal Cert.KernelIdeal.Gen

variable {w : Nat} (W : Width w)

/-- A column of sums or maxima laid out as a row. -/
theorem row_apply (x : (⟨1, ![w]⟩ : Shape).Idx → EReal) (h : Shape.ShapeCasts ⟨1, ![w]⟩ (Mat 1 w)) (j : Fin w) :
    shapeCast (Mat 1 w) x h (ix2 0 j) = x (ix1 j) :=
  ValueIdx.shapeCast_a_1a_apply x h 0 j

/-- A row repeated down a matrix. -/
theorem spread_apply {n : Nat} (x : (Mat 1 w).Idx → EReal) (h : (Mat 1 w).Broadcasts (Mat n w)) (i : Fin n) (j : Fin w) :
    broadcastTo (Mat n w) x h (ix2 i j) = x (ix2 0 j) :=
  ValueIdx.broadcastTo_1b_ab_apply x h i j

/-- A leading axis of one element dropped. -/
theorem drop_apply {n : Nat} (x : (⟨3, ![1, n, w]⟩ : Shape).Idx → EReal) (h : Shape.ShapeCasts ⟨3, ![1, n, w]⟩ (Mat n w))
    (i : Fin n) (j : Fin w) : shapeCast (Mat n w) x h (ix2 i j) = x (ix3 0 i j) :=
  ValueIdx.shapeCast_1ab_ab_apply x h i j

/-- A leading axis of one element added. -/
theorem add_apply {n : Nat} (x : (Mat n w).Idx → EReal) (h : Shape.ShapeCasts (Mat n w) ⟨3, ![1, n, w]⟩)
    (i : Fin n) (j : Fin w) : shapeCast ⟨3, ![1, n, w]⟩ x h (ix3 0 i j) = x (ix2 i j) :=
  ValueIdx.shapeCast_ab_1ab_apply x h 0 i j

/-- The columns of a matrix from `c0` on. -/
theorem cut_apply {n c0 : Nat} (x : (Mat n 4096).Idx → EReal) (h : (Mat n 4096).Slices ![0, c0] (Mat n w))
    (i : Fin n) (j : Fin w) (k : Fin 4096) (hk : k.val = c0 + j.val) :
    extractStridedSlice (Mat n w) ![0, c0] x h (ix2 i j) = x (ix2 i k) :=
  ValueIdx.slice2_axis1_apply c0 x h i j k hk

/-- A matrix product from zero. -/
theorem product_apply {n m : Nat} (W : DotDims.WF (Mat n m) (Mat m w) (Mat n w) [1] [0] [0] [1] [] [])
    (a : FVec Ideal (Mat n m) .bf16) (b : FVec Ideal (Mat m w) .bf16) (i : Fin n) (j : Fin w) :
    matmul ⟨[1], [0], [0], [1], [], [], W⟩ none a b (constant (Mat n w) .f32 0x00000000#32) (ix2 i j)
      = ∑ d : Fin m, a (ix2 i d) * b (ix2 d j) := by
  refine (Ideal.matmul_plain_apply (M := n) (K := m) (N := w) none a b _ i j).trans ?_
  have h0 : (constant (F := Ideal) (Mat n w) .f32 0x00000000#32 (ix2 i j) : EReal) = 0 := by pointwise
  exact (congrArg (· + _) h0).trans (zero_add _)

/-- The largest entry of a column. -/
theorem column_max (h : (Mat 256 w).Reduces [0] ⟨1, ![w]⟩) (s : FVec Ideal (Mat 256 w) .f32) (j : Fin w) :
    multiReduction .maximumf [0] ⟨1, ![w]⟩ s 0xFF800000#32 h (.inl rfl) rfl (ix1 j)
      = Finset.univ.sup fun i : Fin 256 => s (ix2 i j) := by
  refine (multiReduction_maximumf_eq_fold s _ h _ _ (ix1 j)).trans ?_
  refine (h.fold_fiber_r2_a0 (ix1 j) _ _ s).trans ?_
  have hb : (FloatOps.ofBits .f32 0xFF800000#32 : Ideal .f32) = (⊥ : EReal) := by simp [Ideal.ofBits_def, Ideal.ofBits, Ideal.ieee]
  rw [hb]
  rfl

/-- The sum of a column. -/
theorem column_sum (h : (Mat 256 w).Reduces [0] ⟨1, ![w]⟩) (s : FVec Ideal (Mat 256 w) .f32) (j : Fin w) :
    multiReduction .add [0] ⟨1, ![w]⟩ s 0x00000000#32 h (.inl rfl) rfl (ix1 j) = ∑ i : Fin 256, s (ix2 i j) :=
  h.sum_fiber_r2_a0 (ix1 j) s

/-- The values of 256 positions, their two leading axes of one element dropped. -/
theorem values_apply (v : Vec Ideal S1x1x128x256 .bf16) (r : Fin 128) (i : Fin 256) :
    shapeCast S128x256 v shapeCasts_S1x1x128x256_S128x256 (ix2 r i) = v (ix4 0 0 r i) := by
  refine shapeCast_apply v _ (ix2 r i) (ix4 0 0 r i) ?_
  rw [Shape.rowMajor_val_four, Shape.rowMajor_val_two]
  show ((0 * 1 + 0) * 128 + r.val) * 256 + i.val = r.val * 256 + i.val
  omega

theorem newMax_apply (m : FVec Ideal (Mat 1 w) .f32) (s : FVec Ideal (Mat 256 w) .f32) (j : Fin w) :
    newMax W m s (ix2 0 j) = max (m (ix2 0 j)) (Finset.univ.sup fun i : Fin 256 => s (ix2 i j)) := by
  unfold newMax
  refine (ValueIdx.maximumf_apply _ _ _).trans ?_
  rw [row_apply]
  exact congrArg (max _) (column_max W.reduces s j)

theorem rescale_apply (m : FVec Ideal (Mat 1 w) .f32) (s : FVec Ideal (Mat 256 w) .f32) (j : Fin w) :
    rescale W m s (ix2 0 j) = Ideal.exp2 (m (ix2 0 j) - newMax W m s (ix2 0 j)) := rfl

theorem weights_apply (m : FVec Ideal (Mat 1 w) .f32) (s : FVec Ideal (Mat 256 w) .f32) (i : Fin 256) (j : Fin w) :
    weights W m s (ix2 i j) = Ideal.exp2 (s (ix2 i j) - newMax W m s (ix2 0 j)) := by
  show Ideal.exp2 (s (ix2 i j) - broadcastTo (Mat 256 w) (newMax W m s) W.toScores (ix2 i j)) = _
  rw [spread_apply]

theorem newSum_apply (m l : FVec Ideal (Mat 1 w) .f32) (s : FVec Ideal (Mat 256 w) .f32) (j : Fin w) :
    newSum W m l s (ix2 0 j) = rescale W m s (ix2 0 j) * l (ix2 0 j) + ∑ i : Fin 256, weights W m s (ix2 i j) := by
  unfold newSum
  rw [ValueIdx.addf_apply, ValueIdx.mulf_apply, row_apply]
  exact congrArg (HAdd.hAdd (α := EReal) _) (column_sum W.reduces _ j)

theorem newAcc_apply (m : FVec Ideal (Mat 1 w) .f32) (s : FVec Ideal (Mat 256 w) .f32)
    (v : Vec Ideal S1x1x128x256 .bf16) (acc : Vec Ideal ⟨3, ![1, 128, w]⟩ .f32) (r : Fin 128) (j : Fin w) :
    newAcc W m s v acc (ix3 0 r j)
      = rescale W m s (ix2 0 j) * acc (ix3 0 r j) + ∑ i : Fin 256, v (ix4 0 0 r i) * weights W m s (ix2 i j) := by
  unfold newAcc
  rw [add_apply, ValueIdx.addf_apply, ValueIdx.mulf_apply, spread_apply, drop_apply]
  refine congrArg (HAdd.hAdd (α := EReal) _) ((product_apply W.values _ _ r j).trans ?_)
  refine Finset.sum_congr rfl fun i _ => congrArg₂ (· * ·) (values_apply v r i) rfl

theorem scores_apply (hw : w ≤ 4096) (k : FVec Ideal S256x128 .bf16) (q : FVec Ideal (Mat 128 w) .bf16) (i : Fin 256)
    (j : Fin w) :
    scores W k q (ix2 i j) = if i.val ≤ j.val then ∑ d : Fin 128, k (ix2 i d) * q (ix2 d j) else ⊥ := by
  unfold scores
  have hi := i.isLt
  have hj := j.isLt
  rw [ValueIdx.select_apply, product_apply]
  have hc : cmpi .sle (iota .tc (Mat 256 w) 32 [0] W.rows) (iota .tc (Mat 256 w) 32 [1] W.cols) (ix2 i j)
      = IntOp.cmpi .sle (BitVec.ofNat 32 i.val) (BitVec.ofNat 32 j.val) := by pointwise
  rw [hc, WordCmp.cmpi_sle_ofNat (by omega) (by omega), WordCmp.select_decide]
  rfl

theorem keys_apply (kv kpe : Vec Ideal S1x256x128 .bf16) (i : Fin 256) (d : Fin 128) :
    keys kv kpe (ix2 i d) = if d.val < 64 then kv (ix3 0 i d) else kpe (ix3 0 i d) := by
  unfold keys
  have hd := d.isLt
  rw [ValueIdx.select_apply, drop_apply, drop_apply]
  have hc : cmpi .slt (iota .tc S256x128 32 [1] iota_S256x128_d1_w32) (broadcast S256x128 64#32) (ix2 i d)
      = IntOp.cmpi .slt (BitVec.ofNat 32 d.val) (BitVec.ofNat 32 64) := by pointwise
  rw [hc, WordCmp.cmpi_slt_ofNat (by omega) (by omega), WordCmp.select_decide]

theorem put_apply {c0 : Nat} (C : Cut c0 w) (hw : c0 + w = 4096) (old : FVec Ideal S1x4096 .f32) (new : FVec Ideal (Mat 1 w) .f32) (j : Fin 4096) :
    put C old new (ix2 0 j) = if h : j.val < c0 then old (ix2 0 j) else new (ix2 0 ⟨j.val - c0, by omega⟩) := by
  unfold put
  by_cases h : j.val < c0
  · rw [dif_pos h]
    refine (concatenate_pair_apply_left (s₁ := Mat 1 c0) (1 : Fin 2) _ _ C.join (ix2 0 j) rfl
      (ix2 (0 : Fin 1) (⟨j.val, h⟩ : Fin c0)) (fun b => by match b with | 0 => rfl | 1 => rfl)).trans ?_
    exact cut_apply (n := 1) old C.before 0 _ j (by simp)
  · rw [dif_neg h]
    exact concatenate_pair_apply_right (s₁ := Mat 1 c0) (s₂ := Mat 1 w) (1 : Fin 2) _ _ C.join (ix2 0 j) rfl rfl
      (ix2 (0 : Fin 1) (⟨j.val - c0, by omega⟩ : Fin w))
      (fun b hb => by match b with | 0 => rfl | 1 => exact absurd rfl hb)
      (by show j.val - c0 + c0 = j.val; omega)

end Cert.KernelIdeal.Attn
-- ==== Proof.Ends.lean ====
/- THE TWO ENDS OF THE RUN: where the first step starts from, and what is made of the state the last one leaves. -/
module

public import proofs.«01_k».proof.Proof.Step

@[expose] public section

set_option maxRecDepth 16384

noncomputable section

namespace Cert.KernelIdeal.Attn

open Idealize.ShloMosaic Idealize.SL.Sem
open Cert.KernelIdeal Cert.KernelIdeal.Gen Cert.KernelIdeal.Gen.kernelRun0_A.sl

variable {F : FTy → Type} [FloatOps F] [Named F]

variable (c : Dev nD) (i : grid0.Coords)
  (arg3 : Memref sig .tc .vmem S1x4096x256 .bf16) (harg3 : arg3.IsWhole)
  (arg4 : Memref sig .tc .vmem S1x4096x256 .bf16) (harg4 : arg4.IsWhole)
  (arg5 : Memref sig .tc .vmem S1x4096x128 .bf16) (harg5 : arg5.IsWhole)
  (arg6 : Memref sig .tc .vmem S1x16x256x256 .bf16) (harg6 : arg6.IsWhole)
  (arg7 : Memref sig .tc .vmem S1x4096x128 .bf16) (harg7 : arg7.IsWhole)
  (arg8 : Memref sig .tc .vmem S2x128x4096 .f32) (harg8 : arg8.IsWhole)
  (x0 : Vec F S1x4096x256 .bf16) (x1 : Vec F S1x4096x256 .bf16) (x2 : Vec F S1x4096x128 .bf16)
  (x3 : Vec F S1x16x256x256 .bf16)

theorem axis2 : (i 2).val = 0 := Nat.lt_one_iff.mp (i 2).isLt

theorem noTrip1 : Scf.trips (k0_t1_loop i).lb (k0_t1_loop i).ub (k0_t1_loop i).st = 0 := by
  unfold k0_t1_loop
  rw [axis2]
  decide

theorem noTrip2 : Scf.trips (k0_t2_loop i).lb (k0_t2_loop i).ub (k0_t2_loop i).st = 0 := by
  unfold k0_t2_loop
  rw [axis2]
  decide

/-- Where the first step starts from. -/
abbrev stStart : State F :=
  ⟨r_2 c i arg3 harg3 arg4 harg4 arg5 harg5 arg6 harg6 arg7 harg7 arg8 harg8 x0 x1 x2 x3,
   r_3 c i arg3 harg3 arg4 harg4 arg5 harg5 arg6 harg6 arg7 harg7 arg8 harg8 x0 x1 x2 x3,
   r_4 c i arg3 harg3 arg4 harg4 arg5 harg5 arg6 harg6 arg7 harg7 arg8 harg8 x0 x1 x2 x3,
   r_5 c i arg3 harg3 arg4 harg4 arg5 harg5 arg6 harg6 arg7 harg7 arg8 harg8 x0 x1 x2 x3,
   (HS0_1_1 c i arg3 harg3 arg4 harg4 arg5 harg5 arg6 harg6 arg7 harg7 arg8 harg8 x0 x1 x2 x3).tail⟩

/-- Nothing accumulated: the masked value for the maxima, zeros for the sums. -/
abbrev stZero : State F :=
  ⟨k0_pay27, k0_pay28, k0_pay29, k0_pay30,
   [⟨Rect.unit ![0, 0, 0] S2x128x4096.size inb_S2x128x4096_S2x128x4096_0_0_0, k0_pay26⟩]⟩

theorem stStart_eq :
    stStart c i arg3 harg3 arg4 harg4 arg5 harg5 arg6 harg6 arg7 harg7 arg8 harg8 x0 x1 x2 x3 = stZero := by
  unfold stStart r_2 r_3 r_4 r_5 HS0_1_1
  rw [noTrip1, noTrip2]
  rfl

end Cert.KernelIdeal.Attn
-- ==== Proof.Invariant.lean ====
/- THE INVARIANT OF THE STEPS: before the step that takes in the keys from `N` on, each head's maximum, sum and
   weighted sums of values are those of its first `N` keys, for every query column; a step takes them to the first
   `N + 256`. A column before the step's offset is not touched, and there the keys taken in are all masked. -/
module

public import proofs.«01_k».proof.Proof.StepValue
public import proofs.«01_k».proof.Proof.Ends

@[expose] public section

set_option maxRecDepth 16384

noncomputable section

namespace Cert.KernelIdeal.Attn

open Idealize.ShloMosaic Idealize.SL.Sem
open Cert.KernelIdeal Cert.KernelIdeal.Gen
open Cert.Attn

/-! ### One head, over the columns a step takes -/

/-- A sum over 256 keys, the keys counted by naturals. -/
theorem sum_keys (f : ℕ → EReal) : ∑ i : Fin 256, f i.val = ∑ i ∈ Finset.range 256, f i :=
  Fin.sum_univ_eq_sum_range f 256

/-- A maximum over 256 keys, the keys counted by naturals. -/
theorem sup_keys (f : ℕ → EReal) : (Finset.univ.sup fun i : Fin 256 => f i.val) = (Finset.range 256).sup f := by
  refine le_antisymm (Finset.sup_le fun i _ => ?_) (Finset.sup_le fun i hi => ?_)
  · exact Finset.le_sup (f := f) (Finset.mem_range.mpr i.isLt)
  · exact Finset.le_sup (f := fun i : Fin 256 => f i.val) (Finset.mem_univ ⟨i, Finset.mem_range.mp hi⟩)

section Head

variable {w : Nat} (W : Width w) (m l : FVec Ideal (Mat 1 w) .f32) (s : FVec Ideal (Mat 256 w) .f32) (j : Fin w)
  (x : ℕ → EReal) (N : ℕ)

theorem newMax_top (hm : m (ix2 0 j) = top x N) (hs : ∀ i : Fin 256, s (ix2 i j) = x (N + i.val)) :
    newMax W m s (ix2 0 j) = top x (N + 256) := by
  rw [newMax_apply, hm, top_add]
  simp only [hs]
  rw [sup_keys fun i => x (N + i)]

theorem newSum_total (hx : ∀ i, x i ≠ ⊤) (hm : m (ix2 0 j) = top x N) (hl : l (ix2 0 j) = total x (fun _ => 1) N)
    (hs : ∀ i : Fin 256, s (ix2 i j) = x (N + i.val)) :
    newSum W m l s (ix2 0 j) = total x (fun _ => 1) (N + 256) := by
  rw [newSum_apply, rescale_apply, newMax_top W m s j x N hm hs, hm, hl, ← total_add (fun _ => 1) hx N 256]
  simp only [weights_apply, newMax_top W m s j x N hm hs, hs, one_mul]
  rw [sum_keys fun i => Ideal.exp2 (x (N + i) - top x (N + 256))]

theorem newAcc_total (hx : ∀ i, x i ≠ ⊤) (hm : m (ix2 0 j) = top x N)
    (hs : ∀ i : Fin 256, s (ix2 i j) = x (N + i.val)) (v : Vec Ideal S1x1x128x256 .bf16)
    (acc : Vec Ideal ⟨3, ![1, 128, w]⟩ .f32) (r : Fin 128) (y : ℕ → EReal)
    (hv : ∀ i : Fin 256, v (ix4 0 0 r i) = y (N + i.val)) (ha : acc (ix3 0 r j) = total x y N) :
    newAcc W m s v acc (ix3 0 r j) = total x y (N + 256) := by
  rw [newAcc_apply, rescale_apply, newMax_top W m s j x N hm hs, hm, ha, ← total_add y hx N 256]
  simp only [weights_apply, newMax_top W m s j x N hm hs, hs, hv]
  rw [sum_keys fun i => y (N + i) * Ideal.exp2 (x (N + i) - top x (N + 256))]

end Head

/-! ### The buffer of weighted sums -/

theorem part_emb (h : Fin 2) {c0 w : Nat} (hb) (r : Fin 128) (j : Fin w) (k : Fin 4096) (hk : k.val = c0 + j.val) :
    (part h.val c0 w hb).emb (ix3 0 r j) = ix3 h r k := by
  funext a
  apply Fin.ext
  rw [Rect.emb_apply]
  match a with
  | 0 => show h.val + 1 * 0 = h.val; omega
  | 1 => show 0 + 1 * r.val = r.val; omega
  | 2 => show c0 + 1 * j.val = k.val; omega

/-- What a write of one head's columns from `c0` on leaves. -/
theorem canon_part (h : Fin 2) {c0 w : Nat} (hw : c0 + w = 4096) (hb) (P : Vec Ideal ⟨3, ![1, 128, w]⟩ .f32)
    (L : List (View.Piece (Elt Ideal) S2x128x4096 .f32)) (h' : Fin 2) (r : Fin 128) (j : Fin 4096) :
    View.canon (⟨part h.val c0 w hb, P⟩ :: L) (ix3 h' r j)
      = if hj : h' = h ∧ c0 ≤ j.val then P (ix3 0 r ⟨j.val - c0, by omega⟩) else View.canon L (ix3 h' r j) := by
  by_cases hj : h' = h ∧ c0 ≤ j.val
  · obtain ⟨rfl, hc⟩ := hj
    rw [dif_pos ⟨rfl, hc⟩, ← part_emb h' hb r ⟨j.val - c0, by omega⟩ j (by show j.val = c0 + (j.val - c0); omega)]
    exact View.canon_cons_emb (part h'.val c0 w hb) P L _
  · rw [dif_neg hj]
    refine View.canon_cons_of_not_mem _ L fun hm => hj ?_
    have hm := (Rect.mem_set_unit (inb := hb)).mp hm
    have h0 : h.val ≤ h'.val ∧ h'.val < h.val + 1 := hm 0
    have h2 : c0 ≤ j.val ∧ j.val < c0 + w := hm 2
    exact ⟨Fin.ext (by omega), h2.1⟩

/-- What a step reads of it. -/
theorem read_part (v : View sig .tc .vmem S2x128x4096 .f32) (L : List (View.Piece (Elt Ideal) S2x128x4096 .f32))
    (h : Fin 2) {c0 w : Nat} (hb) (r : Fin 128) (j : Fin w) (k : Fin 4096) (hk : k.val = c0 + j.val) :
    v.readCov L (part h.val c0 w hb).toLoadRect (ix3 0 r j) = View.canon L (ix3 h r k) := by
  rw [View.readCov_eq_canon']
  exact congrArg (View.canon L) (part_emb h hb r j k hk)

/-! ### The state -/

/-- The two heads' running values are those of their first `N` keys. -/
structure Holds (x : Fin 2 → Fin 4096 → ℕ → EReal) (y : Fin 2 → Fin 128 → ℕ → EReal) (N : ℕ) (st : State Ideal) :
    Prop where
  m0 : ∀ j, st.m0 (ix2 0 j) = top (x 0 j) N
  l0 : ∀ j, st.l0 (ix2 0 j) = total (x 0 j) (fun _ => 1) N
  m1 : ∀ j, st.m1 (ix2 0 j) = top (x 1 j) N
  l1 : ∀ j, st.l1 (ix2 0 j) = total (x 1 j) (fun _ => 1) N
  acc : ∀ h r j, View.canon st.acc (ix3 h r j) = total (x h j) (y h r) N

/-- The scores of query column `j`: those of the keys up to `j`. -/
abbrev causal (g : Fin 2 → Fin 4096 → ℕ → ℝ) (h : Fin 2) (j : Fin 4096) : ℕ → EReal := masked (g h j) (j.val + 1)

/-- What the loaded keys and values are: their products with the queries, and the values, of the 256 keys from `N` on. -/
structure Reads (g : Fin 2 → Fin 4096 → ℕ → ℝ) (y : Fin 2 → Fin 128 → ℕ → EReal) (N : ℕ)
    (q0 q1 : FVec Ideal S128x4096 .bf16) (x : Loads Ideal) : Prop where
  k0 : ∀ (i : Fin 256) j, ∑ d : Fin 128, keys x.k0 x.kpe (ix2 i d) * q0 (ix2 d j) = (g 0 j (N + i.val) : EReal)
  k1 : ∀ (i : Fin 256) j, ∑ d : Fin 128, keys x.k1 x.kpe (ix2 i d) * q1 (ix2 d j) = (g 1 j (N + i.val) : EReal)
  v0 : ∀ r (i : Fin 256), x.v0 (ix4 0 0 r i) = y 0 r (N + i.val)
  v1 : ∀ r (i : Fin 256), x.v1 (ix4 0 0 r i) = y 1 r (N + i.val)

/-- The scores of one step. -/
theorem scores_causal {w : Nat} (W : Width w) {N : ℕ} (hw : N + w = 4096) (k : FVec Ideal S256x128 .bf16)
    (q : FVec Ideal S128x4096 .bf16) (qw : FVec Ideal (Mat 128 w) .bf16)
    (hq : ∀ d (j : Fin w) (c : Fin 4096), c.val = N + j.val → qw (ix2 d j) = q (ix2 d c)) (g : Fin 4096 → ℕ → ℝ)
    (hg : ∀ (i : Fin 256) j, ∑ d : Fin 128, k (ix2 i d) * q (ix2 d j) = (g j (N + i.val) : EReal)) (i : Fin 256)
    (j : Fin w) (c : Fin 4096) (hc : c.val = N + j.val) :
    scores W k qw (ix2 i j) = masked (g c) (c.val + 1) (N + i.val) := by
  rw [scores_apply W (by omega)]
  simp only [fun d => hq d j c hc]
  rw [hg i c, masked, hc]
  exact if_congr (by omega) rfl rfl

/-- The scores the first column sees, at a width of all columns. -/
theorem causal_ne_top (g : Fin 2 → Fin 4096 → ℕ → ℝ) (h : Fin 2) (j : Fin 4096) (i : ℕ) : causal g h j i ≠ ⊤ :=
  masked_ne_top _ _ _

theorem causal_masked (g : Fin 2 → Fin 4096 → ℕ → ℝ) (h : Fin 2) (j : Fin 4096) (N : ℕ) (hj : j.val < N) :
    ∀ i < 256, causal g h j (N + i) = ⊥ := fun i _ => if_neg (by omega)

section Put

variable {w N : Nat} (W : Width w) (C : Cut N w) (hw : N + w = 4096) (h : Fin 2) (g : Fin 2 → Fin 4096 → ℕ → ℝ)
  (m l : FVec Ideal S1x4096 .f32) (s : FVec Ideal (Mat 256 w) .f32)
  (hs : ∀ (i : Fin 256) (j : Fin w) (c : Fin 4096), c.val = N + j.val → s (ix2 i j) = causal g h c (N + i.val))
  (hm : ∀ j, m (ix2 0 j) = top (causal g h j) N)

include hw hs hm

theorem put_newMax (j : Fin 4096) :
    put C m (newMax W (extractStridedSlice (Mat 1 w) ![0, N] m C.row) s) (ix2 0 j) = top (causal g h j) (N + 256) := by
  rw [put_apply C hw]
  by_cases hj : j.val < N
  · rw [dif_pos hj, hm, top_add_masked _ _ (causal_masked g h j N hj)]
  · rw [dif_neg hj]
    have hj' : j.val = N + (j.val - N) := by omega
    exact newMax_top W _ s _ _ N ((cut_apply (n := 1) m C.row 0 _ j hj').trans (hm j)) fun i => hs i _ j hj'

theorem put_newSum (hl : ∀ j, l (ix2 0 j) = total (causal g h j) (fun _ => 1) N) (j : Fin 4096) :
    put C l (newSum W (extractStridedSlice (Mat 1 w) ![0, N] m C.row) (extractStridedSlice (Mat 1 w) ![0, N] l C.row) s)
      (ix2 0 j) = total (causal g h j) (fun _ => 1) (N + 256) := by
  rw [put_apply C hw]
  by_cases hj : j.val < N
  · rw [dif_pos hj, hl, total_add_masked _ _ _ (causal_masked g h j N hj)]
  · rw [dif_neg hj]
    have hj' : j.val = N + (j.val - N) := by omega
    exact newSum_total W _ _ s _ _ N (causal_ne_top g h j) ((cut_apply (n := 1) m C.row 0 _ j hj').trans (hm j))
      ((cut_apply (n := 1) l C.row 0 _ j hj').trans (hl j)) fun i => hs i _ j hj'

theorem canon_newAcc (v : View sig .tc .vmem S2x128x4096 .f32) (L : List (View.Piece (Elt Ideal) S2x128x4096 .f32)) (hb)
    (x : Vec Ideal S1x1x128x256 .bf16) (y : Fin 128 → ℕ → EReal)
    (hv : ∀ r (i : Fin 256), x (ix4 0 0 r i) = y r (N + i.val))
    (hL : ∀ r j, View.canon L (ix3 h r j) = total (causal g h j) (y r) N) (h' : Fin 2) (r : Fin 128) (j : Fin 4096) :
    View.canon (⟨part h.val N w hb, newAcc W (extractStridedSlice (Mat 1 w) ![0, N] m C.row) s x
        (v.readCov L (part h.val N w hb).toLoadRect)⟩ :: L) (ix3 h' r j)
      = if h' = h then total (causal g h j) (y r) (N + 256) else View.canon L (ix3 h' r j) := by
  rw [canon_part h hw]
  by_cases hh : h' = h
  · subst hh
    rw [if_pos rfl]
    by_cases hj : j.val < N
    · rw [dif_neg (by omega), hL, total_add_masked _ _ _ (causal_masked g h' j N hj)]
    · rw [dif_pos ⟨rfl, by omega⟩]
      have hj' : j.val = N + (j.val - N) := by omega
      exact newAcc_total W _ s _ _ N (causal_ne_top g h' j) ((cut_apply (n := 1) m C.row 0 _ j hj').trans (hm j))
        (fun i => hs i _ j hj') x _ r _ (hv r) ((read_part v L h' hb r _ j hj').trans (hL r j))
  · rw [if_neg hh, dif_neg fun e => hh e.1]

end Put

/-- A step takes the invariant 256 keys on. -/
theorem step_holds {w N : Nat} (W : Width w) (C : Cut N w) (hw : N + w = 4096)
    (v : View sig .tc .vmem S2x128x4096 .f32) (h0) (h1) (g : Fin 2 → Fin 4096 → ℕ → ℝ)
    (y : Fin 2 → Fin 128 → ℕ → EReal) (q0 q1 : FVec Ideal S128x4096 .bf16) (x : Loads Ideal) (st : State Ideal)
    (hx : Reads g y N q0 q1 x) (hst : Holds (causal g) y N st) :
    Holds (causal g) y (N + 256) (step v W C h0 h1 q0 q1 x st) := by
  have hq := fun (q : FVec Ideal S128x4096 .bf16) (d : Fin 128) (j : Fin w) (c : Fin 4096) (hc : c.val = N + j.val) =>
    cut_apply (n := 128) q C.query d j c hc
  have hs0 := scores_causal W hw _ q0 _ (hq q0) (g 0) hx.k0
  have hs1 := scores_causal W hw _ q1 _ (hq q1) (g 1) hx.k1
  have a0 := canon_newAcc W C hw 0 g st.m0 _ hs0 hst.m0 v st.acc h0 x.v0 (y 0) hx.v0 (hst.acc 0)
  have a1 := fun L hL => canon_newAcc W C hw 1 g st.m1 _ hs1 hst.m1 v L h1 x.v1 (y 1) hx.v1 hL
  refine ⟨put_newMax W C hw 0 g _ _ hs0 hst.m0, put_newSum W C hw 0 g _ _ _ hs0 hst.m0 hst.l0,
    put_newMax W C hw 1 g _ _ hs1 hst.m1, put_newSum W C hw 1 g _ _ _ hs1 hst.m1 hst.l1, fun h r j => ?_⟩
  refine (a1 _ (fun r j => (a0 1 r j).trans ((if_neg (by decide)).trans (hst.acc 1 r j))) h r j).trans ?_
  match h with
  | 0 => exact (if_neg (by decide)).trans ((a0 0 r j).trans (if_pos rfl))
  | 1 => exact if_pos rfl

/-- Before the first step nothing is taken in. -/
theorem stZero_holds (x : Fin 2 → Fin 4096 → ℕ → EReal) (y : Fin 2 → Fin 128 → ℕ → EReal) :
    Holds x y 0 stZero := by
  refine ⟨fun j => rfl, fun j => ?_, fun j => rfl, fun j => ?_, fun h r j => ?_⟩
  · show Ideal.ofBits .f32 0x00000000#32 = _
    simp [Ideal.ofBits, Ideal.ieee, total]
  · show Ideal.ofBits .f32 0x00000000#32 = _
    simp [Ideal.ofBits, Ideal.ieee, total]
  · rw [View.canon_unit_zero (by funext a; match a with | 0 => rfl | 1 => rfl | 2 => rfl)]
    show Ideal.ofBits .f32 0x00000000#32 = _
    simp [Ideal.ofBits, Ideal.ieee, total]

theorem canon_firstAcc (W : Width 4096) (h : Fin 2) (g : Fin 2 → Fin 4096 → ℕ → ℝ) (m : FVec Ideal S1x4096 .f32)
    (s : FVec Ideal (Mat 256 4096) .f32) (hs : ∀ (i : Fin 256) (j : Fin 4096), s (ix2 i j) = causal g h j (0 + i.val))
    (hm : ∀ j, m (ix2 0 j) = top (causal g h j) 0) (v : View sig .tc .vmem S2x128x4096 .f32)
    (L : List (View.Piece (Elt Ideal) S2x128x4096 .f32)) (hb) (x : Vec Ideal S1x1x128x256 .bf16) (y : Fin 128 → ℕ → EReal)
    (hv : ∀ r (i : Fin 256), x (ix4 0 0 r i) = y r (0 + i.val))
    (hL : ∀ r j, View.canon L (ix3 h r j) = total (causal g h j) (y r) 0) (h' : Fin 2) (r : Fin 128) (j : Fin 4096) :
    View.canon (⟨part h.val 0 4096 hb, newAcc W m s x (v.readCov L (part h.val 0 4096 hb).toLoadRect)⟩ :: L) (ix3 h' r j)
      = if h' = h then total (causal g h j) (y r) (0 + 256) else View.canon L (ix3 h' r j) := by
  refine (canon_part h rfl hb _ L h' r j).trans ?_
  by_cases hh : h' = h
  · rw [if_pos hh, dif_pos ⟨hh, Nat.zero_le _⟩]
    exact newAcc_total W _ s j _ 0 (causal_ne_top g h j) (hm j) (fun i => hs i j) x _ r _ (hv r)
      ((read_part v L h hb r _ j (Nat.zero_add _).symm).trans (hL r j))
  · rw [if_neg hh, dif_neg fun e => hh e.1]

/-- The first step, over all the columns. -/
theorem firstStep_holds (W : Width 4096) (v : View sig .tc .vmem S2x128x4096 .f32) (h0) (h1)
    (g : Fin 2 → Fin 4096 → ℕ → ℝ) (y : Fin 2 → Fin 128 → ℕ → EReal) (q0 q1 : FVec Ideal S128x4096 .bf16)
    (x : Loads Ideal) (st : State Ideal) (hx : Reads g y 0 q0 q1 x) (hst : Holds (causal g) y 0 st) :
    Holds (causal g) y (0 + 256) (firstStep v W h0 h1 q0 q1 x st) := by
  have hq := fun (q : FVec Ideal S128x4096 .bf16) (d : Fin 128) (j c : Fin 4096) (hc : c.val = 0 + j.val) =>
    congrArg (fun k => q (ix2 d k)) (Fin.ext (by omega) : j = c)
  have hs0 := fun i j => scores_causal W rfl _ q0 _ (hq q0) (g 0) hx.k0 i j j (Nat.zero_add _).symm
  have hs1 := fun i j => scores_causal W rfl _ q1 _ (hq q1) (g 1) hx.k1 i j j (Nat.zero_add _).symm
  have a0 := canon_firstAcc W 0 g st.m0 _ hs0 hst.m0 v st.acc h0 x.v0 (y 0) hx.v0 (hst.acc 0)
  have a1 := fun L hL => canon_firstAcc W 1 g st.m1 _ hs1 hst.m1 v L h1 x.v1 (y 1) hx.v1 hL
  refine ⟨fun j => newMax_top W _ _ j _ 0 (hst.m0 j) fun i => hs0 i j,
    fun j => newSum_total W _ _ _ j _ 0 (causal_ne_top g 0 j) (hst.m0 j) (hst.l0 j) fun i => hs0 i j,
    fun j => newMax_top W _ _ j _ 0 (hst.m1 j) fun i => hs1 i j,
    fun j => newSum_total W _ _ _ j _ 0 (causal_ne_top g 1 j) (hst.m1 j) (hst.l1 j) fun i => hs1 i j, fun h r j => ?_⟩
  refine (a1 _ (fun r j => (a0 1 r j).trans ((if_neg (by decide)).trans (hst.acc 1 r j))) h r j).trans ?_
  match h with
  | 0 => exact (if_neg (by decide)).trans ((a0 0 r j).trans (if_pos rfl))
  | 1 => exact if_pos rfl

end Cert.KernelIdeal.Attn
-- ==== Proof.Chain.lean ====
/- THE KERNEL'S RUN IS SIXTEEN STEPS: the values the run of the body names, gathered per step into the state the
   step leaves, and each of these states the step (`Step.lean`) taken from the one before — by unfolding. Ahead
   of the steps stand the queries, scaled and transposed, and two loops that make no trip at this grid. -/
module

public import proofs.«01_k».proof.Proof.Step

@[expose] public section

set_option maxRecDepth 16384

noncomputable section

namespace Cert.KernelIdeal.Attn

open Idealize.ShloMosaic Idealize.SL.Sem
open Cert.KernelIdeal Cert.KernelIdeal.Gen Cert.KernelIdeal.Gen.kernelRun0_A.sl

variable {F : FTy → Type} [FloatOps F] [Named F]

variable (c : Dev nD) (i : grid0.Coords)
  (arg3 : Memref sig .tc .vmem S1x4096x256 .bf16) (harg3 : arg3.IsWhole)
  (arg4 : Memref sig .tc .vmem S1x4096x256 .bf16) (harg4 : arg4.IsWhole)
  (arg5 : Memref sig .tc .vmem S1x4096x128 .bf16) (harg5 : arg5.IsWhole)
  (arg6 : Memref sig .tc .vmem S1x16x256x256 .bf16) (harg6 : arg6.IsWhole)
  (arg7 : Memref sig .tc .vmem S1x4096x128 .bf16) (harg7 : arg7.IsWhole)
  (arg8 : Memref sig .tc .vmem S2x128x4096 .f32) (harg8 : arg8.IsWhole)
  (x0 : Vec F S1x4096x256 .bf16) (x1 : Vec F S1x4096x256 .bf16) (x2 : Vec F S1x4096x128 .bf16)
  (x3 : Vec F S1x16x256x256 .bf16)

/-- The keys and values step `a` loads. -/
def loads (a : Nat) (ha : a < 16) : Loads F where
  kpe := View.readAt (Elt F) arg5.view
    (Rect.unit (s := S1x4096x128) (k0_off11 i (BitVec.ofNat 32 a)) S1x256x128.size (k0_off11_inb i ⟨a, ha⟩)).toLoadRect (harg5.unread x2)
  k0 := View.readAt (Elt F) arg4.view
    (Rect.unit (s := S1x4096x256) (k0_off12 i (BitVec.ofNat 32 a)) S1x256x128.size (k0_off12_inb i ⟨a, ha⟩)).toLoadRect (harg4.unread x1)
  k1 := View.readAt (Elt F) arg4.view
    (Rect.unit (s := S1x4096x256) (k0_off13 i (BitVec.ofNat 32 a)) S1x256x128.size (k0_off13_inb i ⟨a, ha⟩)).toLoadRect (harg4.unread x1)
  v0 := View.readAt (Elt F) arg6.view
    (Rect.unit (s := S1x16x256x256) (k0_off14 i (BitVec.ofNat 32 a)) S1x1x128x256.size (k0_off14_inb i ⟨a, ha⟩)).toLoadRect (harg6.unread x3)
  v1 := View.readAt (Elt F) arg6.view
    (Rect.unit (s := S1x16x256x256) (k0_off15 i (BitVec.ofNat 32 a)) S1x1x128x256.size (k0_off15_inb i ⟨a, ha⟩)).toLoadRect (harg6.unread x3)

/-- The state after step 0. -/
abbrev st0 : State F :=
  ⟨r_9 c i arg3 harg3 arg4 harg4 arg5 harg5 arg6 harg6 arg7 harg7 arg8 harg8 x0 x1 x2 x3,
   r_12 c i arg3 harg3 arg4 harg4 arg5 harg5 arg6 harg6 arg7 harg7 arg8 harg8 x0 x1 x2 x3,
   r_13 c i arg3 harg3 arg4 harg4 arg5 harg5 arg6 harg6 arg7 harg7 arg8 harg8 x0 x1 x2 x3,
   r_14 c i arg3 harg3 arg4 harg4 arg5 harg5 arg6 harg6 arg7 harg7 arg8 harg8 x0 x1 x2 x3,
   HS0_2 c i arg3 harg3 arg4 harg4 arg5 harg5 arg6 harg6 arg7 harg7 arg8 harg8 x0 x1 x2 x3⟩

/-- The state after step 1. -/
abbrev st1 : State F :=
  ⟨r_21 c i arg3 harg3 arg4 harg4 arg5 harg5 arg6 harg6 arg7 harg7 arg8 harg8 x0 x1 x2 x3,
   r_22 c i arg3 harg3 arg4 harg4 arg5 harg5 arg6 harg6 arg7 harg7 arg8 harg8 x0 x1 x2 x3,
   r_23 c i arg3 harg3 arg4 harg4 arg5 harg5 arg6 harg6 arg7 harg7 arg8 harg8 x0 x1 x2 x3,
   r_24 c i arg3 harg3 arg4 harg4 arg5 harg5 arg6 harg6 arg7 harg7 arg8 harg8 x0 x1 x2 x3,
   HS0_4 c i arg3 harg3 arg4 harg4 arg5 harg5 arg6 harg6 arg7 harg7 arg8 harg8 x0 x1 x2 x3⟩

/-- The state after step 2. -/
abbrev st2 : State F :=
  ⟨r_31 c i arg3 harg3 arg4 harg4 arg5 harg5 arg6 harg6 arg7 harg7 arg8 harg8 x0 x1 x2 x3,
   r_32 c i arg3 harg3 arg4 harg4 arg5 harg5 arg6 harg6 arg7 harg7 arg8 harg8 x0 x1 x2 x3,
   r_34 c i arg3 harg3 arg4 harg4 arg5 harg5 arg6 harg6 arg7 harg7 arg8 harg8 x0 x1 x2 x3,
   r_35 c i arg3 harg3 arg4 harg4 arg5 harg5 arg6 harg6 arg7 harg7 arg8 harg8 x0 x1 x2 x3,
   HS0_6 c i arg3 harg3 arg4 harg4 arg5 harg5 arg6 harg6 arg7 harg7 arg8 harg8 x0 x1 x2 x3⟩

/-- The state after step 3. -/
abbrev st3 : State F :=
  ⟨r_45 c i arg3 harg3 arg4 harg4 arg5 harg5 arg6 harg6 arg7 harg7 arg8 harg8 x0 x1 x2 x3,
   r_46 c i arg3 harg3 arg4 harg4 arg5 harg5 arg6 harg6 arg7 harg7 arg8 harg8 x0 x1 x2 x3,
   r_53 c i arg3 harg3 arg4 harg4 arg5 harg5 arg6 harg6 arg7 harg7 arg8 harg8 x0 x1 x2 x3,
   r_54 c i arg3 harg3 arg4 harg4 arg5 harg5 arg6 harg6 arg7 harg7 arg8 harg8 x0 x1 x2 x3,
   HS0_8 c i arg3 harg3 arg4 harg4 arg5 harg5 arg6 harg6 arg7 harg7 arg8 harg8 x0 x1 x2 x3⟩

/-- The state after step 4. -/
abbrev st4 : State F :=
  ⟨r_61 c i arg3 harg3 arg4 harg4 arg5 harg5 arg6 harg6 arg7 harg7 arg8 harg8 x0 x1 x2 x3,
   r_62 c i arg3 harg3 arg4 harg4 arg5 harg5 arg6 harg6 arg7 harg7 arg8 harg8 x0 x1 x2 x3,
   r_65 c i arg3 harg3 arg4 harg4 arg5 harg5 arg6 harg6 arg7 harg7 arg8 harg8 x0 x1 x2 x3,
   r_66 c i arg3 harg3 arg4 harg4 arg5 harg5 arg6 harg6 arg7 harg7 arg8 harg8 x0 x1 x2 x3,
   HS0_10 c i arg3 harg3 arg4 harg4 arg5 harg5 arg6 harg6 arg7 harg7 arg8 harg8 x0 x1 x2 x3⟩

/-- The state after step 5. -/
abbrev st5 : State F :=
  ⟨r_73 c i arg3 harg3 arg4 harg4 arg5 harg5 arg6 harg6 arg7 harg7 arg8 harg8 x0 x1 x2 x3,
   r_74 c i arg3 harg3 arg4 harg4 arg5 harg5 arg6 harg6 arg7 harg7 arg8 harg8 x0 x1 x2 x3,
   r_75 c i arg3 harg3 arg4 harg4 arg5 harg5 arg6 harg6 arg7 harg7 arg8 harg8 x0 x1 x2 x3,
   r_76 c i arg3 harg3 arg4 harg4 arg5 harg5 arg6 harg6 arg7 harg7 arg8 harg8 x0 x1 x2 x3,
   HS0_12 c i arg3 harg3 arg4 harg4 arg5 harg5 arg6 harg6 arg7 harg7 arg8 harg8 x0 x1 x2 x3⟩

/-- The state after step 6. -/
abbrev st6 : State F :=
  ⟨r_83 c i arg3 harg3 arg4 harg4 arg5 harg5 arg6 harg6 arg7 harg7 arg8 harg8 x0 x1 x2 x3,
   r_84 c i arg3 harg3 arg4 harg4 arg5 harg5 arg6 harg6 arg7 harg7 arg8 harg8 x0 x1 x2 x3,
   r_86 c i arg3 harg3 arg4 harg4 arg5 harg5 arg6 harg6 arg7 harg7 arg8 harg8 x0 x1 x2 x3,
   r_87 c i arg3 harg3 arg4 harg4 arg5 harg5 arg6 harg6 arg7 harg7 arg8 harg8 x0 x1 x2 x3,
   HS0_14 c i arg3 harg3 arg4 harg4 arg5 harg5 arg6 harg6 arg7 harg7 arg8 harg8 x0 x1 x2 x3⟩

/-- The state after step 7. -/
abbrev st7 : State F :=
  ⟨r_97 c i arg3 harg3 arg4 harg4 arg5 harg5 arg6 harg6 arg7 harg7 arg8 harg8 x0 x1 x2 x3,
   r_98 c i arg3 harg3 arg4 harg4 arg5 harg5 arg6 harg6 arg7 harg7 arg8 harg8 x0 x1 x2 x3,
   r_105 c i arg3 harg3 arg4 harg4 arg5 harg5 arg6 harg6 arg7 harg7 arg8 harg8 x0 x1 x2 x3,
   r_106 c i arg3 harg3 arg4 harg4 arg5 harg5 arg6 harg6 arg7 harg7 arg8 harg8 x0 x1 x2 x3,
   HS0_16 c i arg3 harg3 arg4 harg4 arg5 harg5 arg6 harg6 arg7 harg7 arg8 harg8 x0 x1 x2 x3⟩

/-- The state after step 8. -/
abbrev st8 : State F :=
  ⟨r_113 c i arg3 harg3 arg4 harg4 arg5 harg5 arg6 harg6 arg7 harg7 arg8 harg8 x0 x1 x2 x3,
   r_114 c i arg3 harg3 arg4 harg4 arg5 harg5 arg6 harg6 arg7 harg7 arg8 harg8 x0 x1 x2 x3,
   r_117 c i arg3 harg3 arg4 harg4 arg5 harg5 arg6 harg6 arg7 harg7 arg8 harg8 x0 x1 x2 x3,
   r_118 c i arg3 harg3 arg4 harg4 arg5 harg5 arg6 harg6 arg7 harg7 arg8 harg8 x0 x1 x2 x3,
   HS0_18 c i arg3 harg3 arg4 harg4 arg5 harg5 arg6 harg6 arg7 harg7 arg8 harg8 x0 x1 x2 x3⟩

/-- The state after step 9. -/
abbrev st9 : State F :=
  ⟨r_125 c i arg3 harg3 arg4 harg4 arg5 harg5 arg6 harg6 arg7 harg7 arg8 harg8 x0 x1 x2 x3,
   r_126 c i arg3 harg3 arg4 harg4 arg5 harg5 arg6 harg6 arg7 harg7 arg8 harg8 x0 x1 x2 x3,
   r_127 c i arg3 harg3 arg4 harg4 arg5 harg5 arg6 harg6 arg7 harg7 arg8 harg8 x0 x1 x2 x3,
   r_128 c i arg3 harg3 arg4 harg4 arg5 harg5 arg6 harg6 arg7 harg7 arg8 harg8 x0 x1 x2 x3,
   HS0_20 c i arg3 harg3 arg4 harg4 arg5 harg5 arg6 harg6 arg7 harg7 arg8 harg8 x0 x1 x2 x3⟩

/-- The state after step 10. -/
abbrev st10 : State F :=
  ⟨r_135 c i arg3 harg3 arg4 harg4 arg5 harg5 arg6 harg6 arg7 harg7 arg8 harg8 x0 x1 x2 x3,
   r_136 c i arg3 harg3 arg4 harg4 arg5 harg5 arg6 harg6 arg7 harg7 arg8 harg8 x0 x1 x2 x3,
   r_138 c i arg3 harg3 arg4 harg4 arg5 harg5 arg6 harg6 arg7 harg7 arg8 harg8 x0 x1 x2 x3,
   r_139 c i arg3 harg3 arg4 harg4 arg5 harg5 arg6 harg6 arg7 harg7 arg8 harg8 x0 x1 x2 x3,
   HS0_22 c i arg3 harg3 arg4 harg4 arg5 harg5 arg6 harg6 arg7 harg7 arg8 harg8 x0 x1 x2 x3⟩

/-- The state after step 11. -/
abbrev st11 : State F :=
  ⟨r_149 c i arg3 harg3 arg4 harg4 arg5 harg5 arg6 harg6 arg7 harg7 arg8 harg8 x0 x1 x2 x3,
   r_150 c i arg3 harg3 arg4 harg4 arg5 harg5 arg6 harg6 arg7 harg7 arg8 harg8 x0 x1 x2 x3,
   r_157 c i arg3 harg3 arg4 harg4 arg5 harg5 arg6 harg6 arg7 harg7 arg8 harg8 x0 x1 x2 x3,
   r_158 c i arg3 harg3 arg4 harg4 arg5 harg5 arg6 harg6 arg7 harg7 arg8 harg8 x0 x1 x2 x3,
   HS0_24 c i arg3 harg3 arg4 harg4 arg5 harg5 arg6 harg6 arg7 harg7 arg8 harg8 x0 x1 x2 x3⟩

/-- The state after step 12. -/
abbrev st12 : State F :=
  ⟨r_165 c i arg3 harg3 arg4 harg4 arg5 harg5 arg6 harg6 arg7 harg7 arg8 harg8 x0 x1 x2 x3,
   r_166 c i arg3 harg3 arg4 harg4 arg5 harg5 arg6 harg6 arg7 harg7 arg8 harg8 x0 x1 x2 x3,
   r_169 c i arg3 harg3 arg4 harg4 arg5 harg5 arg6 harg6 arg7 harg7 arg8 harg8 x0 x1 x2 x3,
   r_170 c i arg3 harg3 arg4 harg4 arg5 harg5 arg6 harg6 arg7 harg7 arg8 harg8 x0 x1 x2 x3,
   HS0_26 c i arg3 harg3 arg4 harg4 arg5 harg5 arg6 harg6 arg7 harg7 arg8 harg8 x0 x1 x2 x3⟩

/-- The state after step 13. -/
abbrev st13 : State F :=
  ⟨r_177 c i arg3 harg3 arg4 harg4 arg5 harg5 arg6 harg6 arg7 harg7 arg8 harg8 x0 x1 x2 x3,
   r_178 c i arg3 harg3 arg4 harg4 arg5 harg5 arg6 harg6 arg7 harg7 arg8 harg8 x0 x1 x2 x3,
   r_179 c i arg3 harg3 arg4 harg4 arg5 harg5 arg6 harg6 arg7 harg7 arg8 harg8 x0 x1 x2 x3,
   r_180 c i arg3 harg3 arg4 harg4 arg5 harg5 arg6 harg6 arg7 harg7 arg8 harg8 x0 x1 x2 x3,
   HS0_28 c i arg3 harg3 arg4 harg4 arg5 harg5 arg6 harg6 arg7 harg7 arg8 harg8 x0 x1 x2 x3⟩

/-- The state after step 14. -/
abbrev st14 : State F :=
  ⟨r_187 c i arg3 harg3 arg4 harg4 arg5 harg5 arg6 harg6 arg7 harg7 arg8 harg8 x0 x1 x2 x3,
   r_188 c i arg3 harg3 arg4 harg4 arg5 harg5 arg6 harg6 arg7 harg7 arg8 harg8 x0 x1 x2 x3,
   r_190 c i arg3 harg3 arg4 harg4 arg5 harg5 arg6 harg6 arg7 harg7 arg8 harg8 x0 x1 x2 x3,
   r_191 c i arg3 harg3 arg4 harg4 arg5 harg5 arg6 harg6 arg7 harg7 arg8 harg8 x0 x1 x2 x3,
   HS0_30 c i arg3 harg3 arg4 harg4 arg5 harg5 arg6 harg6 arg7 harg7 arg8 harg8 x0 x1 x2 x3⟩

theorem st1_eq :
    st1 c i arg3 harg3 arg4 harg4 arg5 harg5 arg6 harg6 arg7 harg7 arg8 harg8 x0 x1 x2 x3
      = stepAt arg8.view (r c arg3 harg3 x0) (r_1 c arg3 harg3 x0) (loads i arg4 harg4 arg5 harg5 arg6 harg6 x1 x2 x3 1 (by decide)) 1 (by decide)
          (st0 c i arg3 harg3 arg4 harg4 arg5 harg5 arg6 harg6 arg7 harg7 arg8 harg8 x0 x1 x2 x3) := rfl

theorem st2_eq :
    st2 c i arg3 harg3 arg4 harg4 arg5 harg5 arg6 harg6 arg7 harg7 arg8 harg8 x0 x1 x2 x3
      = stepAt arg8.view (r c arg3 harg3 x0) (r_1 c arg3 harg3 x0) (loads i arg4 harg4 arg5 harg5 arg6 harg6 x1 x2 x3 2 (by decide)) 2 (by decide)
          (st1 c i arg3 harg3 arg4 harg4 arg5 harg5 arg6 harg6 arg7 harg7 arg8 harg8 x0 x1 x2 x3) := rfl

theorem st3_eq :
    st3 c i arg3 harg3 arg4 harg4 arg5 harg5 arg6 harg6 arg7 harg7 arg8 harg8 x0 x1 x2 x3
      = stepAt arg8.view (r c arg3 harg3 x0) (r_1 c arg3 harg3 x0) (loads i arg4 harg4 arg5 harg5 arg6 harg6 x1 x2 x3 3 (by decide)) 3 (by decide)
          (st2 c i arg3 harg3 arg4 harg4 arg5 harg5 arg6 harg6 arg7 harg7 arg8 harg8 x0 x1 x2 x3) := rfl

theorem st4_eq :
    st4 c i arg3 harg3 arg4 harg4 arg5 harg5 arg6 harg6 arg7 harg7 arg8 harg8 x0 x1 x2 x3
      = stepAt arg8.view (r c arg3 harg3 x0) (r_1 c arg3 harg3 x0) (loads i arg4 harg4 arg5 harg5 arg6 harg6 x1 x2 x3 4 (by decide)) 4 (by decide)
          (st3 c i arg3 harg3 arg4 harg4 arg5 harg5 arg6 harg6 arg7 harg7 arg8 harg8 x0 x1 x2 x3) := rfl

theorem st5_eq :
    st5 c i arg3 harg3 arg4 harg4 arg5 harg5 arg6 harg6 arg7 harg7 arg8 harg8 x0 x1 x2 x3
      = stepAt arg8.view (r c arg3 harg3 x0) (r_1 c arg3 harg3 x0) (loads i arg4 harg4 arg5 harg5 arg6 harg6 x1 x2 x3 5 (by decide)) 5 (by decide)
          (st4 c i arg3 harg3 arg4 harg4 arg5 harg5 arg6 harg6 arg7 harg7 arg8 harg8 x0 x1 x2 x3) := rfl

theorem st6_eq :
    st6 c i arg3 harg3 arg4 harg4 arg5 harg5 arg6 harg6 arg7 harg7 arg8 harg8 x0 x1 x2 x3
      = stepAt arg8.view (r c arg3 harg3 x0) (r_1 c arg3 harg3 x0) (loads i arg4 harg4 arg5 harg5 arg6 harg6 x1 x2 x3 6 (by decide)) 6 (by decide)
          (st5 c i arg3 harg3 arg4 harg4 arg5 harg5 arg6 harg6 arg7 harg7 arg8 harg8 x0 x1 x2 x3) := rfl

theorem st7_eq :
    st7 c i arg3 harg3 arg4 harg4 arg5 harg5 arg6 harg6 arg7 harg7 arg8 harg8 x0 x1 x2 x3
      = stepAt arg8.view (r c arg3 harg3 x0) (r_1 c arg3 harg3 x0) (loads i arg4 harg4 arg5 harg5 arg6 harg6 x1 x2 x3 7 (by decide)) 7 (by decide)
          (st6 c i arg3 harg3 arg4 harg4 arg5 harg5 arg6 harg6 arg7 harg7 arg8 harg8 x0 x1 x2 x3) := rfl

theorem st8_eq :
    st8 c i arg3 harg3 arg4 harg4 arg5 harg5 arg6 harg6 arg7 harg7 arg8 harg8 x0 x1 x2 x3
      = stepAt arg8.view (r c arg3 harg3 x0) (r_1 c arg3 harg3 x0) (loads i arg4 harg4 arg5 harg5 arg6 harg6 x1 x2 x3 8 (by decide)) 8 (by decide)
          (st7 c i arg3 harg3 arg4 harg4 arg5 harg5 arg6 harg6 arg7 harg7 arg8 harg8 x0 x1 x2 x3) := rfl

theorem st9_eq :
    st9 c i arg3 harg3 arg4 harg4 arg5 harg5 arg6 harg6 arg7 harg7 arg8 harg8 x0 x1 x2 x3
      = stepAt arg8.view (r c arg3 harg3 x0) (r_1 c arg3 harg3 x0) (loads i arg4 harg4 arg5 harg5 arg6 harg6 x1 x2 x3 9 (by decide)) 9 (by decide)
          (st8 c i arg3 harg3 arg4 harg4 arg5 harg5 arg6 harg6 arg7 harg7 arg8 harg8 x0 x1 x2 x3) := rfl

theorem st10_eq :
    st10 c i arg3 harg3 arg4 harg4 arg5 harg5 arg6 harg6 arg7 harg7 arg8 harg8 x0 x1 x2 x3
      = stepAt arg8.view (r c arg3 harg3 x0) (r_1 c arg3 harg3 x0) (loads i arg4 harg4 arg5 harg5 arg6 harg6 x1 x2 x3 10 (by decide)) 10 (by decide)
          (st9 c i arg3 harg3 arg4 harg4 arg5 harg5 arg6 harg6 arg7 harg7 arg8 harg8 x0 x1 x2 x3) := rfl

theorem st11_eq :
    st11 c i arg3 harg3 arg4 harg4 arg5 harg5 arg6 harg6 arg7 harg7 arg8 harg8 x0 x1 x2 x3
      = stepAt arg8.view (r c arg3 harg3 x0) (r_1 c arg3 harg3 x0) (loads i arg4 harg4 arg5 harg5 arg6 harg6 x1 x2 x3 11 (by decide)) 11 (by decide)
          (st10 c i arg3 harg3 arg4 harg4 arg5 harg5 arg6 harg6 arg7 harg7 arg8 harg8 x0 x1 x2 x3) := rfl

theorem st12_eq :
    st12 c i arg3 harg3 arg4 harg4 arg5 harg5 arg6 harg6 arg7 harg7 arg8 harg8 x0 x1 x2 x3
      = stepAt arg8.view (r c arg3 harg3 x0) (r_1 c arg3 harg3 x0) (loads i arg4 harg4 arg5 harg5 arg6 harg6 x1 x2 x3 12 (by decide)) 12 (by decide)
          (st11 c i arg3 harg3 arg4 harg4 arg5 harg5 arg6 harg6 arg7 harg7 arg8 harg8 x0 x1 x2 x3) := rfl

theorem st13_eq :
    st13 c i arg3 harg3 arg4 harg4 arg5 harg5 arg6 harg6 arg7 harg7 arg8 harg8 x0 x1 x2 x3
      = stepAt arg8.view (r c arg3 harg3 x0) (r_1 c arg3 harg3 x0) (loads i arg4 harg4 arg5 harg5 arg6 harg6 x1 x2 x3 13 (by decide)) 13 (by decide)
          (st12 c i arg3 harg3 arg4 harg4 arg5 harg5 arg6 harg6 arg7 harg7 arg8 harg8 x0 x1 x2 x3) := rfl

theorem st14_eq :
    st14 c i arg3 harg3 arg4 harg4 arg5 harg5 arg6 harg6 arg7 harg7 arg8 harg8 x0 x1 x2 x3
      = stepAt arg8.view (r c arg3 harg3 x0) (r_1 c arg3 harg3 x0) (loads i arg4 harg4 arg5 harg5 arg6 harg6 x1 x2 x3 14 (by decide)) 14 (by decide)
          (st13 c i arg3 harg3 arg4 harg4 arg5 harg5 arg6 harg6 arg7 harg7 arg8 harg8 x0 x1 x2 x3) := rfl

end Cert.KernelIdeal.Attn
-- ==== Proof.Whole.lean ====
/- THE RUN WHOLE: the first step, from where the two loops left off; and the block the body writes, from the state
   the last step leaves. -/
module

public import proofs.«01_k».proof.Proof.Chain
public import proofs.«01_k».proof.Proof.Ends

@[expose] public section

set_option maxRecDepth 16384

noncomputable section

namespace Cert.KernelIdeal.Attn

open Idealize.ShloMosaic Idealize.SL.Sem
open Cert.KernelIdeal Cert.KernelIdeal.Gen Cert.KernelIdeal.Gen.kernelRun0_A.sl

variable {F : FTy → Type} [FloatOps F] [Named F]

variable (c : Dev nD) (i : grid0.Coords)
  (arg3 : Memref sig .tc .vmem S1x4096x256 .bf16) (harg3 : arg3.IsWhole)
  (arg4 : Memref sig .tc .vmem S1x4096x256 .bf16) (harg4 : arg4.IsWhole)
  (arg5 : Memref sig .tc .vmem S1x4096x128 .bf16) (harg5 : arg5.IsWhole)
  (arg6 : Memref sig .tc .vmem S1x16x256x256 .bf16) (harg6 : arg6.IsWhole)
  (arg7 : Memref sig .tc .vmem S1x4096x128 .bf16) (harg7 : arg7.IsWhole)
  (arg8 : Memref sig .tc .vmem S2x128x4096 .f32) (harg8 : arg8.IsWhole)
  (x0 : Vec F S1x4096x256 .bf16) (x1 : Vec F S1x4096x256 .bf16) (x2 : Vec F S1x4096x128 .bf16)
  (x3 : Vec F S1x16x256x256 .bf16)

theorem st0_eq :
    st0 c i arg3 harg3 arg4 harg4 arg5 harg5 arg6 harg6 arg7 harg7 arg8 harg8 x0 x1 x2 x3
      = firstStep arg8.view (width 0 (by decide)) (part_inb 0 0 4096 (by decide) (by decide))
          (part_inb 1 0 4096 (by decide) (by decide)) (r c arg3 harg3 x0) (r_1 c arg3 harg3 x0)
          (loads i arg4 harg4 arg5 harg5 arg6 harg6 x1 x2 x3 0 (by decide))
          (stStart c i arg3 harg3 arg4 harg4 arg5 harg5 arg6 harg6 arg7 harg7 arg8 harg8 x0 x1 x2 x3) := rfl

/-- The state the last step leaves. -/
def stLast : State F :=
  stepAt arg8.view (r c arg3 harg3 x0) (r_1 c arg3 harg3 x0) (loads i arg4 harg4 arg5 harg5 arg6 harg6 x1 x2 x3 15 (by decide)) 15 (by decide)
    (st14 c i arg3 harg3 arg4 harg4 arg5 harg5 arg6 harg6 arg7 harg7 arg8 harg8 x0 x1 x2 x3)

set_option maxHeartbeats 2000000 in
theorem written :
    (kernelRun0_A c i arg3 harg3 arg4 harg4 arg5 harg5 arg6 harg6 arg7 harg7 arg8 harg8 x0 x1 x2 x3).1
      = [⟨Rect.unit ![0, 0, 0] S1x4096x128.size inb_S1x4096x128_S1x4096x128_0_0_0,
          k0_pay1 (finish (stLast c i arg3 harg3 arg4 harg4 arg5 harg5 arg6 harg6 arg7 harg7 arg8 harg8 x0 x1 x2 x3).l0 (stLast c i arg3 harg3 arg4 harg4 arg5 harg5 arg6 harg6 arg7 harg7 arg8 harg8 x0 x1 x2 x3).l1
            (arg8.view.readCov (stLast c i arg3 harg3 arg4 harg4 arg5 harg5 arg6 harg6 arg7 harg7 arg8 harg8 x0 x1 x2 x3).acc (part 0 0 4096 (part_inb 0 0 4096 (by decide) (by decide))).toLoadRect)
            (arg8.view.readCov (stLast c i arg3 harg3 arg4 harg4 arg5 harg5 arg6 harg6 arg7 harg7 arg8 harg8 x0 x1 x2 x3).acc (part 1 0 4096 (part_inb 1 0 4096 (by decide) (by decide))).toLoadRect))⟩] := rfl

end Cert.KernelIdeal.Attn
-- ==== Proof.Last.lean ====
/- THE BLOCK A GRID POINT WRITES: the sixteen steps carry the invariant from no keys to all 4096, and the quotients made
   of the state they leave are the attention of each query over the keys up to its own position. -/
module

public import proofs.«01_k».proof.Proof.Invariant
public import proofs.«01_k».proof.Proof.Whole
public import Idealize.ShloMosaic.Lib.Pointwise

@[expose] public section

set_option maxRecDepth 16384

noncomputable section

namespace Cert.KernelIdeal.Attn

open Idealize.ShloMosaic Idealize.SL.Sem
open Cert.KernelIdeal Cert.KernelIdeal.Gen Cert.KernelIdeal.Gen.kernelRun0_A.sl
open Cert.Attn

/-- Step `a` of the kernel takes the invariant on from the first `256 a` keys. -/
theorem stepAt_holds (v : View sig .tc .vmem S2x128x4096 .f32) (g : Fin 2 → Fin 4096 → ℕ → ℝ)
    (y : Fin 2 → Fin 128 → ℕ → EReal) (q0 q1 : FVec Ideal S128x4096 .bf16) (x : Loads Ideal) (a : Nat) (ha : a < 16)
    (st st' : State Ideal) (he : st' = stepAt v q0 q1 x a ha st) (hx : Reads g y (256 * a) q0 q1 x)
    (hst : Holds (causal g) y (256 * a) st) : Holds (causal g) y (256 * (a + 1)) st' := by
  subst he
  exact step_holds (width a ha) (cut a ha) (by omega) v _ _ g y q0 q1 x st hx hst

variable (c : Dev nD) (i : grid0.Coords)
  (arg3 : Memref sig .tc .vmem S1x4096x256 .bf16) (harg3 : arg3.IsWhole)
  (arg4 : Memref sig .tc .vmem S1x4096x256 .bf16) (harg4 : arg4.IsWhole)
  (arg5 : Memref sig .tc .vmem S1x4096x128 .bf16) (harg5 : arg5.IsWhole)
  (arg6 : Memref sig .tc .vmem S1x16x256x256 .bf16) (harg6 : arg6.IsWhole)
  (arg7 : Memref sig .tc .vmem S1x4096x128 .bf16) (harg7 : arg7.IsWhole)
  (arg8 : Memref sig .tc .vmem S2x128x4096 .f32) (harg8 : arg8.IsWhole)
  (x0 : Vec Ideal S1x4096x256 .bf16) (x1 : Vec Ideal S1x4096x256 .bf16) (x2 : Vec Ideal S1x4096x128 .bf16)
  (x3 : Vec Ideal S1x16x256x256 .bf16)

/-- After the last step the running values are those of all the keys. -/
theorem last_holds (g : Fin 2 → Fin 4096 → ℕ → ℝ) (y : Fin 2 → Fin 128 → ℕ → EReal)
    (hx : ∀ a (ha : a < 16), Reads g y (256 * a) (r c arg3 harg3 x0) (r_1 c arg3 harg3 x0)
      (loads i arg4 harg4 arg5 harg5 arg6 harg6 x1 x2 x3 a ha)) :
    Holds (causal g) y 4096 (stLast c i arg3 harg3 arg4 harg4 arg5 harg5 arg6 harg6 arg7 harg7 arg8 harg8 x0 x1 x2 x3) := by
  have hz := stZero_holds (causal g) y
  rw [← stStart_eq c i arg3 harg3 arg4 harg4 arg5 harg5 arg6 harg6 arg7 harg7 arg8 harg8 x0 x1 x2 x3] at hz
  have h0 := firstStep_holds (width 0 (by decide)) arg8.view (part_inb 0 0 4096 (by decide) (by decide))
    (part_inb 1 0 4096 (by decide) (by decide)) g y _ _ _ _ (hx 0 (by decide)) hz
  rw [← st0_eq] at h0
  have next := fun a ha st st' he => stepAt_holds arg8.view g y _ _ _ a ha st st' he (hx a ha)
  have h1 := next 1 _ _ _ (st1_eq c i arg3 harg3 arg4 harg4 arg5 harg5 arg6 harg6 arg7 harg7 arg8 harg8 x0 x1 x2 x3) h0
  have h2 := next 2 _ _ _ (st2_eq c i arg3 harg3 arg4 harg4 arg5 harg5 arg6 harg6 arg7 harg7 arg8 harg8 x0 x1 x2 x3) h1
  have h3 := next 3 _ _ _ (st3_eq c i arg3 harg3 arg4 harg4 arg5 harg5 arg6 harg6 arg7 harg7 arg8 harg8 x0 x1 x2 x3) h2
  have h4 := next 4 _ _ _ (st4_eq c i arg3 harg3 arg4 harg4 arg5 harg5 arg6 harg6 arg7 harg7 arg8 harg8 x0 x1 x2 x3) h3
  have h5 := next 5 _ _ _ (st5_eq c i arg3 harg3 arg4 harg4 arg5 harg5 arg6 harg6 arg7 harg7 arg8 harg8 x0 x1 x2 x3) h4
  have h6 := next 6 _ _ _ (st6_eq c i arg3 harg3 arg4 harg4 arg5 harg5 arg6 harg6 arg7 harg7 arg8 harg8 x0 x1 x2 x3) h5
  have h7 := next 7 _ _ _ (st7_eq c i arg3 harg3 arg4 harg4 arg5 harg5 arg6 harg6 arg7 harg7 arg8 harg8 x0 x1 x2 x3) h6
  have h8 := next 8 _ _ _ (st8_eq c i arg3 harg3 arg4 harg4 arg5 harg5 arg6 harg6 arg7 harg7 arg8 harg8 x0 x1 x2 x3) h7
  have h9 := next 9 _ _ _ (st9_eq c i arg3 harg3 arg4 harg4 arg5 harg5 arg6 harg6 arg7 harg7 arg8 harg8 x0 x1 x2 x3) h8
  have h10 := next 10 _ _ _ (st10_eq c i arg3 harg3 arg4 harg4 arg5 harg5 arg6 harg6 arg7 harg7 arg8 harg8 x0 x1 x2 x3) h9
  have h11 := next 11 _ _ _ (st11_eq c i arg3 harg3 arg4 harg4 arg5 harg5 arg6 harg6 arg7 harg7 arg8 harg8 x0 x1 x2 x3) h10
  have h12 := next 12 _ _ _ (st12_eq c i arg3 harg3 arg4 harg4 arg5 harg5 arg6 harg6 arg7 harg7 arg8 harg8 x0 x1 x2 x3) h11
  have h13 := next 13 _ _ _ (st13_eq c i arg3 harg3 arg4 harg4 arg5 harg5 arg6 harg6 arg7 harg7 arg8 harg8 x0 x1 x2 x3) h12
  have h14 := next 14 _ _ _ (st14_eq c i arg3 harg3 arg4 harg4 arg5 harg5 arg6 harg6 arg7 harg7 arg8 harg8 x0 x1 x2 x3) h13
  exact next 15 (by decide) _ _ rfl h14

/-- One entry of what is made of the state: a weighted sum of values over the sum of weights. -/
theorem finish_apply (l0 l1 : FVec Ideal S1x4096 .f32) (a0 a1 : Vec Ideal S1x128x4096 .f32) (j : Fin 4096) (f : Fin 128) :
    k0_pay1 (finish l0 l1 a0 a1) (ix3 0 j f)
      = if h : f.val < 64 then Ideal.div (a0 (ix3 0 ⟨64 + f.val, by omega⟩ j)) (l0 (ix2 0 j))
        else Ideal.div (a1 (ix3 0 f j)) (l1 (ix2 0 j)) := by
  unfold k0_pay1 finish
  pointwise
  split
  · rfl
  · next h => exact congrArg (fun e => Ideal.div (a1 (ix3 0 e j)) (l1 (ix2 0 j))) (Fin.ext (by show 64 + (f.val - 64) = f.val; omega))

/-- The block written: for each query column and head the attention over the keys up to the column. -/
theorem block_apply (g : Fin 2 → Fin 4096 → ℕ → ℝ) (y : Fin 2 → Fin 128 → ℕ → EReal) (s : Fin 2 → Fin 4096 → ℕ → ℝ)
    (hs : ∀ h j k, Real.log 2 * g h j k = s h j k) (v : Fin 2 → Fin 64 → ℕ → ℝ)
    (hv : ∀ h (d : Fin 64) k, y h ⟨64 + d.val, by omega⟩ k = (v h d k : EReal))
    (hx : ∀ a (ha : a < 16), Reads g y (256 * a) (r c arg3 harg3 x0) (r_1 c arg3 harg3 x0)
      (loads i arg4 harg4 arg5 harg5 arg6 harg6 x1 x2 x3 a ha)) (j : Fin 4096) (h : Fin 2) (d : Fin 64) :
    out0_A_4 c i arg3 harg3 arg4 harg4 arg5 harg5 arg6 harg6 arg7 harg7 arg8 harg8 x0 x1 x2 x3
        (ix3 0 j ⟨h.val * 64 + d.val, by omega⟩) = (attend (s h j) (v h d) (j.val + 1) : EReal) := by
  have H := last_holds c i arg3 harg3 arg4 harg4 arg5 harg5 arg6 harg6 arg7 harg7 arg8 harg8 x0 x1 x2 x3 g y hx
  have hd := fun (h : Fin 2) => total_div (s h j) (g h j) (v h d) (hs h j) (Nat.succ_pos j.val) (N := 4096) j.isLt
  simp only [← hv] at hd
  unfold out0_A_4
  rw [written, View.read_writes_junk_eq_canon, View.canon_unit_zero (by funext a; match a with | 0 => rfl | 1 => rfl | 2 => rfl), finish_apply]
  match h with
  | 0 =>
    rw [dif_pos (by show 0 * 64 + d.val < 64; omega), H.l0, ← hd 0]
    exact congrArg (fun z => Ideal.div z _) ((read_part arg8.view _ 0 _ _ j j (Nat.zero_add _).symm).trans ((H.acc 0 _ j).trans
      (congrArg (fun e => total (causal g 0 j) (y 0 e) 4096) (Fin.ext (by show 64 + (0 * 64 + d.val) = 64 + d.val; omega)))))
  | 1 =>
    rw [dif_neg (by show ¬ 1 * 64 + d.val < 64; omega), H.l1, ← hd 1]
    exact congrArg (fun z => Ideal.div z _) ((read_part arg8.view _ 1 _ _ j j (Nat.zero_add _).symm).trans ((H.acc 1 _ j).trans
      (congrArg (fun e => total (causal g 1 j) (y 1 e) 4096) (Fin.ext (by show 1 * 64 + d.val = 64 + d.val; omega)))))

end Cert.KernelIdeal.Attn
-- ==== Proof.Spec.lean ====
/- WHAT BOTH PROGRAMS COMPUTE, over the reals: the attention of each head's query over the keys up to its own
   position. -/
module

public import proofs.«01_k».proof.Proof.Online
public import Idealize.ShloMosaic.Lib.Pointwise

@[expose] public section

set_option maxRecDepth 16384

noncomputable section

namespace Cert.Attn

open Idealize.ShloMosaic

/-- The queries: sequence, position, head, feature. -/
abbrev QShape : Shape := ⟨4, ![8, 4096, 8, 96]⟩
/-- The keys' and values' features: sequence, position, then per head 64 features of the key and 64 of the value. -/
abbrev KvShape : Shape := ⟨3, ![8, 4096, 1024]⟩
/-- The key features all heads share. -/
abbrev KpeShape : Shape := ⟨3, ![8, 4096, 32]⟩

/-- Every element is a real number. -/
def Finite {s : Shape} (x : s.Idx → EReal) : Prop := ∀ i, x i = ((x i).toReal : EReal)

variable (q : QShape.Idx → EReal) (kv : KvShape.Idx → EReal) (kpe : KpeShape.Idx → EReal)

/-- Feature `d` of the key of head `h` at position `k`. -/
def key (b h : Fin 8) (k : Fin 4096) (d : Fin 96) : EReal :=
  if hd : d.val < 64 then kv (ix3 b k ⟨h.val * 128 + d.val, by omega⟩) else kpe (ix3 b k ⟨d.val - 64, by omega⟩)

/-- The product of the query of head `h` at position `p` with its key at position `k`. -/
def dot (b h : Fin 8) (p k : Fin 4096) : ℝ :=
  ∑ d : Fin 96, (q (ix4 b p h d)).toReal * (key kv kpe b h k d).toReal

/-- The scaled score. -/
def score (b h : Fin 8) (p : Fin 4096) (k : ℕ) : ℝ :=
  if hk : k < 4096 then dot q kv kpe b h p ⟨k, hk⟩ * (√96)⁻¹ else 0

/-- Feature `d` of the value of head `h` at position `k`. -/
def value (b h : Fin 8) (d : Fin 64) (k : ℕ) : ℝ :=
  if hk : k < 4096 then (kv (ix3 b ⟨k, hk⟩ ⟨h.val * 128 + (64 + d.val), by omega⟩)).toReal else 0

/-- The attention's result: sequence `b`, position `p`, feature `d` of head `h`. -/
def result (b h : Fin 8) (p : Fin 4096) (d : Fin 64) : ℝ :=
  attend (score q kv kpe b h p) (value kv b h d) (p.val + 1)

variable {q kv kpe}

theorem key_finite (hkv : Finite kv) (hkpe : Finite kpe) (b h : Fin 8) (k : Fin 4096) (d : Fin 96) :
    key kv kpe b h k d = ((key kv kpe b h k d).toReal : EReal) := by
  unfold key
  split
  · exact hkv _
  · exact hkpe _

/-- The product of query and key, summed in the extended reals. -/
theorem dot_finite (hq : Finite q) (hkv : Finite kv) (hkpe : Finite kpe) (b h : Fin 8) (p k : Fin 4096) :
    ∑ d : Fin 96, q (ix4 b p h d) * key kv kpe b h k d = (dot q kv kpe b h p k : EReal) := by
  unfold dot
  rw [coe_sum]
  refine Finset.sum_congr rfl fun d _ => ?_
  rw [EReal.coe_mul, ← hq, ← key_finite hkv hkpe]

theorem value_finite (hkv : Finite kv) (b h : Fin 8) (d : Fin 64) (k : Fin 4096) :
    kv (ix3 b k ⟨h.val * 128 + (64 + d.val), by omega⟩) = (value kv b h d k.val : EReal) := by
  unfold value
  rw [dif_pos k.isLt]
  exact hkv _

end Cert.Attn
-- ==== Proof.Block.lean ====
/- ONE GRID POINT: from blocks that hold a sequence's queries, keys and values of two heads, the body writes the two
   heads' attention. -/
module

public import proofs.«01_k».proof.Proof.Last
public import proofs.«01_k».proof.Proof.Spec
public import Idealize.ShloMosaic.Lib.WholeRead

@[expose] public section

set_option maxRecDepth 16384

noncomputable section

namespace Cert.KernelIdeal.Attn

open Idealize.ShloMosaic Idealize.SL.Sem
open Cert.KernelIdeal Cert.KernelIdeal.Gen Cert.KernelIdeal.Gen.kernelRun0_A.sl
open Cert.Attn

section Loads

variable (i : grid0.Coords)
  (arg4 : Memref sig .tc .vmem S1x4096x256 .bf16) (harg4 : arg4.IsWhole)
  (arg5 : Memref sig .tc .vmem S1x4096x128 .bf16) (harg5 : arg5.IsWhole)
  (arg6 : Memref sig .tc .vmem S1x16x256x256 .bf16) (harg6 : arg6.IsWhole)
  (x1 : Vec Ideal S1x4096x256 .bf16) (x2 : Vec Ideal S1x4096x128 .bf16)
  (x3 : Vec Ideal S1x16x256x256 .bf16) (a : Nat) (ha : a < 16)

theorem loads_kpe (k : Fin 256) (d : Fin 128) :
    (loads i arg4 harg4 arg5 harg5 arg6 harg6 x1 x2 x3 a ha).kpe (ix3 0 k d) = x2 (ix3 0 ⟨256 * a + k.val, by omega⟩ d) := by
  refine (harg5.readAt_unread _ _ _).trans (congrArg x2 ?_)
  funext b
  apply Fin.ext
  show k0_off11 i (BitVec.ofNat 32 a) b + 1 * (ix3 0 k d b).val = _
  rw [show k0_off11 i (BitVec.ofNat 32 a) = _ from k0_off11_eq i ⟨a, ha⟩, axis2]
  match b with
  | 0 => rfl
  | 1 => show 4096 * 0 + 256 * a + 1 * k.val = 256 * a + k.val; omega
  | 2 => show 0 + 1 * d.val = d.val; omega

theorem loads_k0 (k : Fin 256) (d : Fin 128) :
    (loads i arg4 harg4 arg5 harg5 arg6 harg6 x1 x2 x3 a ha).k0 (ix3 0 k d)
      = x1 (ix3 0 ⟨256 * a + k.val, by omega⟩ ⟨(0 : Fin 2).val * 128 + d.val, by omega⟩) := by
  refine (harg4.readAt_unread _ _ _).trans (congrArg x1 ?_)
  funext b
  apply Fin.ext
  show k0_off12 i (BitVec.ofNat 32 a) b + 1 * (ix3 0 k d b).val = _
  rw [show k0_off12 i (BitVec.ofNat 32 a) = _ from k0_off12_eq i ⟨a, ha⟩, axis2]
  match b with
  | 0 => rfl
  | 1 => show 4096 * 0 + 256 * a + 1 * k.val = 256 * a + k.val; omega
  | 2 => show 0 + 1 * d.val = 0 * 128 + d.val; omega

theorem loads_k1 (k : Fin 256) (d : Fin 128) :
    (loads i arg4 harg4 arg5 harg5 arg6 harg6 x1 x2 x3 a ha).k1 (ix3 0 k d)
      = x1 (ix3 0 ⟨256 * a + k.val, by omega⟩ ⟨(1 : Fin 2).val * 128 + d.val, by show 1 * 128 + d.val < 256; omega⟩) := by
  refine (harg4.readAt_unread _ _ _).trans (congrArg x1 ?_)
  funext b
  apply Fin.ext
  show k0_off13 i (BitVec.ofNat 32 a) b + 1 * (ix3 0 k d b).val = _
  rw [show k0_off13 i (BitVec.ofNat 32 a) = _ from k0_off13_eq i ⟨a, ha⟩, axis2]
  match b with
  | 0 => rfl
  | 1 => show 4096 * 0 + 256 * a + 1 * k.val = 256 * a + k.val; omega
  | 2 => show 128 + 1 * d.val = 1 * 128 + d.val; omega

theorem loads_v0 (d : Fin 128) (k : Fin 256) :
    (loads i arg4 harg4 arg5 harg5 arg6 harg6 x1 x2 x3 a ha).v0 (ix4 0 0 d k)
      = x3 (ix4 0 ⟨a, ha⟩ ⟨(0 : Fin 2).val * 128 + d.val, by omega⟩ k) := by
  refine (harg6.readAt_unread _ _ _).trans (congrArg x3 ?_)
  funext b
  apply Fin.ext
  show k0_off14 i (BitVec.ofNat 32 a) b + 1 * (ix4 0 0 d k b).val = _
  rw [show k0_off14 i (BitVec.ofNat 32 a) = _ from k0_off14_eq i ⟨a, ha⟩, axis2]
  match b with
  | 0 => rfl
  | 1 => show 16 * 0 + a + 1 * 0 = a; omega
  | 2 => show 0 + 1 * d.val = 0 * 128 + d.val; omega
  | 3 => show 0 + 1 * k.val = k.val; omega

theorem loads_v1 (d : Fin 128) (k : Fin 256) :
    (loads i arg4 harg4 arg5 harg5 arg6 harg6 x1 x2 x3 a ha).v1 (ix4 0 0 d k)
      = x3 (ix4 0 ⟨a, ha⟩ ⟨(1 : Fin 2).val * 128 + d.val, by show 1 * 128 + d.val < 256; omega⟩ k) := by
  refine (harg6.readAt_unread _ _ _).trans (congrArg x3 ?_)
  funext b
  apply Fin.ext
  show k0_off15 i (BitVec.ofNat 32 a) b + 1 * (ix4 0 0 d k b).val = _
  rw [show k0_off15 i (BitVec.ofNat 32 a) = _ from k0_off15_eq i ⟨a, ha⟩, axis2]
  match b with
  | 0 => rfl
  | 1 => show 16 * 0 + a + 1 * 0 = a; omega
  | 2 => show 128 + 1 * d.val = 1 * 128 + d.val; omega
  | 3 => show 0 + 1 * k.val = k.val; omega

end Loads

/-- The factor on the queries: the scores come out in units of log 2. -/
def factor : ℝ := (Real.log 2)⁻¹ * (√96)⁻¹

section Queries

variable (c : Dev nD) (arg3 : Memref sig .tc .vmem S1x4096x256 .bf16) (harg3 : arg3.IsWhole)
  (x0 : Vec Ideal S1x4096x256 .bf16)

theorem pay24_apply (x : Vec Ideal S1x4096x128 .bf16) (d : Fin 128) (j : Fin 4096) :
    k0_pay24 x (ix2 d j) = x (ix3 0 j d) * (factor : EReal) := by
  unfold k0_pay24
  pointwise
  rfl

theorem query0 (d : Fin 128) (j : Fin 4096) :
    r c arg3 harg3 x0 (ix2 d j) = x0 (ix3 0 j ⟨(0 : Fin 2).val * 128 + d.val, by omega⟩) * (factor : EReal) := by
  refine (pay24_apply _ d j).trans (congrArg (fun z : EReal => z * (factor : EReal)) ((harg3.readAt_unread _ _ _).trans (congrArg x0 ?_)))
  funext b
  apply Fin.ext
  match b with
  | 0 => rfl
  | 1 => show 0 + 1 * j.val = j.val; omega
  | 2 => show 0 + 1 * d.val = 0 * 128 + d.val; omega

theorem query1 (d : Fin 128) (j : Fin 4096) :
    r_1 c arg3 harg3 x0 (ix2 d j)
      = x0 (ix3 0 j ⟨(1 : Fin 2).val * 128 + d.val, by show 1 * 128 + d.val < 256; omega⟩) * (factor : EReal) := by
  refine (pay24_apply _ d j).trans (congrArg (fun z : EReal => z * (factor : EReal)) ((harg3.readAt_unread _ _ _).trans (congrArg x0 ?_)))
  funext b
  apply Fin.ext
  match b with
  | 0 => rfl
  | 1 => show 0 + 1 * j.val = j.val; omega
  | 2 => show 128 + 1 * d.val = 1 * 128 + d.val; omega

end Queries

/-! ### The blocks of one sequence and two heads -/

variable (q : QShape.Idx → EReal) (kv : KvShape.Idx → EReal) (kpe : KpeShape.Idx → EReal) (b : Fin 8) (H : Fin 2 → Fin 8)

/-- The blocks hold sequence `b`'s queries, keys and values of the heads `H 0` and `H 1`. -/
structure Blocks (x0 : Vec Ideal S1x4096x256 .bf16) (x1 : Vec Ideal S1x4096x256 .bf16)
    (x2 : Vec Ideal S1x4096x128 .bf16) (x3 : Vec Ideal S1x16x256x256 .bf16) : Prop where
  query : ∀ j (h : Fin 2) (d : Fin 128), x0 (ix3 0 j ⟨h.val * 128 + d.val, by omega⟩)
    = if hd : d.val < 96 then q (ix4 b j (H h) ⟨d.val, hd⟩) else 0
  keyOwn : ∀ k (h : Fin 2) (d : Fin 128), x1 (ix3 0 k ⟨h.val * 128 + d.val, by omega⟩)
    = kv (ix3 b k ⟨(H h).val * 128 + d.val, by omega⟩)
  keyShared : ∀ k (d : Fin 128), x2 (ix3 0 k d) = if hd : 64 ≤ d.val ∧ d.val < 96 then kpe (ix3 b k ⟨d.val - 64, by omega⟩) else 0
  values : ∀ (a : Fin 16) (h : Fin 2) (d : Fin 128) (i : Fin 256), x3 (ix4 0 a ⟨h.val * 128 + d.val, by omega⟩ i)
    = kv (ix3 b ⟨256 * a.val + i.val, by omega⟩ ⟨(H h).val * 128 + d.val, by omega⟩)

/-- The scores in units of log 2. -/
def unit (h : Fin 2) (j : Fin 4096) (k : ℕ) : ℝ :=
  if hk : k < 4096 then dot q kv kpe b (H h) j ⟨k, hk⟩ * factor else 0

/-- The features of a head: 64 of its keys, then 64 of its values. -/
def feature (h : Fin 2) (d : Fin 128) (k : ℕ) : EReal :=
  if hk : k < 4096 then kv (ix3 b ⟨k, hk⟩ ⟨(H h).val * 128 + d.val, by omega⟩) else 0

theorem unit_score (h : Fin 2) (j : Fin 4096) (k : ℕ) : Real.log 2 * unit q kv kpe b H h j k = score q kv kpe b (H h) j k := by
  unfold unit score factor
  have h2 : Real.log 2 ≠ 0 := (Real.log_pos (by norm_num)).ne'
  split
  · field_simp
  · simp

variable {q kv kpe}

theorem feature_value (hkv : Finite kv) (h : Fin 2) (d : Fin 64) (k : ℕ) :
    feature kv b H h ⟨64 + d.val, by omega⟩ k = (value kv b (H h) d k : EReal) := by
  unfold feature value
  split
  · exact hkv _
  · rfl

/-- The 128 features of a query against a key: the last 32 are padding. -/
theorem product (hq : Finite q) (hkv : Finite kv) (hkpe : Finite kpe) (h : Fin 8) (j k : Fin 4096) (X Y : Fin 128 → EReal)
    (hX : ∀ d : Fin 128, X d = (if hd : d.val < 96 then q (ix4 b j h ⟨d.val, hd⟩) else 0) * (factor : EReal))
    (hY : ∀ d : Fin 128, (hd : d.val < 96) → Y d = key kv kpe b h k ⟨d.val, hd⟩) :
    ∑ d, Y d * X d = ((dot q kv kpe b h j k * factor : ℝ) : EReal) := by
  rw [show (∑ d, Y d * X d) = ∑ d : Fin (96 + 32), Y d * X d from rfl, Fin.sum_univ_add,
    Finset.sum_eq_zero (s := Finset.univ) (f := fun d : Fin 32 => Y (Fin.natAdd 96 d) * X (Fin.natAdd 96 d)), add_zero,
    dot, Finset.sum_mul, coe_sum]
  · refine Finset.sum_congr rfl fun d _ => ?_
    rw [hX, hY (Fin.castAdd 32 d) d.isLt, dif_pos (show (Fin.castAdd 32 d).val < 96 from d.isLt), EReal.coe_mul, EReal.coe_mul,
      ← hq, ← key_finite hkv hkpe, ← mul_assoc, mul_comm (key kv kpe b h k _)]
    rfl
  · intro d _
    rw [hX, dif_neg (show ¬ (Fin.natAdd 96 d).val < 96 by simp), zero_mul, mul_zero]

variable (c : Dev nD) (i : grid0.Coords)
  (arg3 : Memref sig .tc .vmem S1x4096x256 .bf16) (harg3 : arg3.IsWhole)
  (arg4 : Memref sig .tc .vmem S1x4096x256 .bf16) (harg4 : arg4.IsWhole)
  (arg5 : Memref sig .tc .vmem S1x4096x128 .bf16) (harg5 : arg5.IsWhole)
  (arg6 : Memref sig .tc .vmem S1x16x256x256 .bf16) (harg6 : arg6.IsWhole)
  (arg7 : Memref sig .tc .vmem S1x4096x128 .bf16) (harg7 : arg7.IsWhole)
  (arg8 : Memref sig .tc .vmem S2x128x4096 .f32) (harg8 : arg8.IsWhole)
  (x0 : Vec Ideal S1x4096x256 .bf16) (x1 : Vec Ideal S1x4096x256 .bf16) (x2 : Vec Ideal S1x4096x128 .bf16)
  (x3 : Vec Ideal S1x16x256x256 .bf16)

/-- One entry of a head's key, as the step selects it. -/
theorem keys_key (hB : Blocks q kv kpe b H x0 x1 x2 x3) (h : Fin 2) (k : Fin 4096) (d : Fin 128) (hd : d.val < 96) :
    (if d.val < 64 then x1 (ix3 0 k ⟨h.val * 128 + d.val, by omega⟩) else x2 (ix3 0 k d)) = key kv kpe b (H h) k ⟨d.val, hd⟩ := by
  unfold key
  by_cases h64 : d.val < 64
  · rw [if_pos h64, dif_pos h64, hB.keyOwn]
  · rw [if_neg h64, dif_neg h64, hB.keyShared, dif_pos ⟨by omega, hd⟩]

/-- What the steps load of such blocks. -/
theorem reads (hq : Finite q) (hkv : Finite kv) (hkpe : Finite kpe) (hB : Blocks q kv kpe b H x0 x1 x2 x3) (a : Nat) (ha : a < 16) :
    Reads (unit q kv kpe b H) (feature kv b H) (256 * a) (r c arg3 harg3 x0) (r_1 c arg3 harg3 x0)
      (loads i arg4 harg4 arg5 harg5 arg6 harg6 x1 x2 x3 a ha) := by
  refine ⟨fun k j => ?_, fun k j => ?_, fun d k => ?_, fun d k => ?_⟩
  · rw [unit, dif_pos (show 256 * a + k.val < 4096 by omega)]
    refine product b hq hkv hkpe (H 0) j ⟨256 * a + k.val, by omega⟩ _ _ (fun d => ?_) fun d hd => ?_
    · rw [query0, hB.query]
    · rw [keys_apply, loads_k0, loads_kpe]
      exact keys_key b H x0 x1 x2 x3 hB 0 ⟨256 * a + k.val, by omega⟩ d hd
  · rw [unit, dif_pos (show 256 * a + k.val < 4096 by omega)]
    refine product b hq hkv hkpe (H 1) j ⟨256 * a + k.val, by omega⟩ _ _ (fun d => ?_) fun d hd => ?_
    · rw [query1, hB.query]
    · rw [keys_apply, loads_k1, loads_kpe]
      exact keys_key b H x0 x1 x2 x3 hB 1 ⟨256 * a + k.val, by omega⟩ d hd
  · rw [loads_v0, hB.values, feature, dif_pos (show 256 * a + k.val < 4096 by omega)]
  · rw [loads_v1, hB.values, feature, dif_pos (show 256 * a + k.val < 4096 by omega)]

/-- The block written from such blocks. -/
theorem block_result (hq : Finite q) (hkv : Finite kv) (hkpe : Finite kpe) (hB : Blocks q kv kpe b H x0 x1 x2 x3) (j : Fin 4096)
    (h : Fin 2) (d : Fin 64) :
    out0_A_4 c i arg3 harg3 arg4 harg4 arg5 harg5 arg6 harg6 arg7 harg7 arg8 harg8 x0 x1 x2 x3
        (ix3 0 j ⟨h.val * 64 + d.val, by omega⟩) = (result q kv kpe b (H h) j d : EReal) :=
  block_apply c i arg3 harg3 arg4 harg4 arg5 harg5 arg6 harg6 arg7 harg7 arg8 harg8 x0 x1 x2 x3
    (unit q kv kpe b H) (feature kv b H) (fun h j => score q kv kpe b (H h) j) (unit_score q kv kpe b H)
    (fun h d => value kv b (H h) d) (feature_value b H hkv)
    (fun a ha => reads b H c i arg3 harg3 arg4 harg4 arg5 harg5 arg6 harg6 x0 x1 x2 x3 hq hkv hkpe hB a ha) j h d

end Cert.KernelIdeal.Attn
-- ==== Proof.Host.lean ====
/- WHAT THE HOST CODE HANDS THE CALL, and a block of it: the queries padded with zeros to 128 features a head, the keys'
   and values' features as they come and once more with the positions along the last axis, and the shared key features
   between zeros. -/
module

public import proofs.«01_k».proof.Proof.Gen.KernelIdeal.Value
public import Idealize.ShloMosaic.Lib.Pointwise

@[expose] public section

set_option maxRecDepth 16384

noncomputable section

namespace Cert.KernelIdeal.Attn

open Idealize.ShloMosaic Idealize.ShloMosaic.TcCoe Idealize.SL.Sem
open Cert.KernelIdeal Cert.KernelIdeal.Gen

variable {F : FTy → Type} [FloatOps F] [Named F]

/-- The queries as the call takes them. -/
def hostQ (q : FVec F S8x4096x8x96 .f32) : FVec F S8x4096x1024 .bf16 :=
  truncf .bf16 (shapeCast S8x4096x1024
    (pad S8x4096x8x128 ![0, 0, 0, 0] ![0, 0, 0, 32] ![0, 0, 0, 0] q (sitofp .f32 (constantI S_ 32 0#32))
      pads_S8x4096x8x96_S8x4096x8x128_000_000_000_0320 h_S_) shapeCasts_S8x4096x8x128_S8x4096x1024) bitsLt_bf16_f32

/-- The features of keys and values as the call takes them. -/
def hostKv (kv : FVec F S8x4096x1024 .f32) : FVec F S8x4096x1024 .bf16 := truncf .bf16 kv bitsLt_bf16_f32

/-- The features of keys and values, positions last. -/
def hostKvT (kv : FVec F S8x4096x1024 .f32) : FVec F S8x16x1024x256 .bf16 :=
  truncf .bf16 (transpose S8x16x1024x256 [0, 1, 3, 2] (shapeCast S8x16x256x1024 kv shapeCasts_S8x4096x1024_S8x16x256x1024)
    transposes_S8x16x256x1024_S8x16x1024x256_0_1_3_2) bitsLt_bf16_f32

/-- The shared key features as the call takes them. -/
def hostKpe (kpe : FVec F S8x4096x32 .f32) : FVec F S8x4096x128 .bf16 :=
  truncf .bf16 (pad S8x4096x128 ![0, 0, 64] ![0, 0, 32] ![0, 0, 0] kpe (sitofp .f32 (constantI S_ 32 0#32))
    pads_S8x4096x32_S8x4096x128_000_000_64320 h_S_) bitsLt_bf16_f32

variable (m : (ℓ : Loc nD τ sig) → Buf (Elt F) ℓ) (c : Dev nD)

theorem V_q : V m c main_v2 = hostQ (m ((c.tc : Thread nD τ).loc main_arg0)) := by
  simp only [V, hostOps0, hostOps0_1, hostOps0_2, hostOps0_3, hostOps0_4, List.flatten_cons, List.flatten_nil,
    List.cons_append, List.nil_append, List.append_nil]
  after_results_simp
  simp only [StableHlo.TRef.toBuf, StableHlo.TRef.ofBuf, cast_eq]
  unfold hostQ
  rfl

theorem V_kv : V m c main_v3 = hostKv (m ((c.tc : Thread nD τ).loc main_arg1)) := by
  simp only [V, hostOps0, hostOps0_1, hostOps0_2, hostOps0_3, hostOps0_4, List.flatten_cons, List.flatten_nil,
    List.cons_append, List.nil_append, List.append_nil]
  after_results_simp
  rfl

theorem V_kvT : V m c main_v6 = hostKvT (m ((c.tc : Thread nD τ).loc main_arg1)) := by
  simp only [V, hostOps0, hostOps0_1, hostOps0_2, hostOps0_3, hostOps0_4, List.flatten_cons, List.flatten_nil,
    List.cons_append, List.nil_append, List.append_nil]
  after_results_simp
  rfl

theorem V_kpe : V m c main_v8 = hostKpe (m ((c.tc : Thread nD τ).loc main_arg2)) := by
  simp only [V, hostOps0, hostOps0_1, hostOps0_2, hostOps0_3, hostOps0_4, List.flatten_cons, List.flatten_nil,
    List.cons_append, List.nil_append, List.append_nil]
  after_results_simp
  simp only [StableHlo.TRef.toBuf, StableHlo.TRef.ofBuf, cast_eq]
  unfold hostKpe
  rfl

/-! ### The blocks: grid point `t` is a sequence and a pair of heads -/

theorem index0 : ∀ t : Fin cfg0.N, (win0_0.index t 0 = t.val / 4 ∧ win0_0.index t 1 = 0) ∧ win0_0.index t 2 = t.val % 4 :=
  (by decide +kernel : ∀ t : Fin grid0.N, (win0_0.index t 0 = t.val / 4 ∧ win0_0.index t 1 = 0) ∧ win0_0.index t 2 = t.val % 4)
theorem index1 : ∀ t : Fin cfg0.N, (win0_1.index t 0 = t.val / 4 ∧ win0_1.index t 1 = 0) ∧ win0_1.index t 2 = t.val % 4 :=
  (by decide +kernel : ∀ t : Fin grid0.N, (win0_1.index t 0 = t.val / 4 ∧ win0_1.index t 1 = 0) ∧ win0_1.index t 2 = t.val % 4)
theorem index2 : ∀ t : Fin cfg0.N, (win0_2.index t 0 = t.val / 4 ∧ win0_2.index t 1 = 0) ∧ win0_2.index t 2 = 0 :=
  (by decide +kernel : ∀ t : Fin grid0.N, (win0_2.index t 0 = t.val / 4 ∧ win0_2.index t 1 = 0) ∧ win0_2.index t 2 = 0)
theorem index3 : ∀ t : Fin cfg0.N, (win0_3.index t 0 = t.val / 4 ∧ win0_3.index t 1 = 0) ∧ (win0_3.index t 2 = t.val % 4 ∧ win0_3.index t 3 = 0) :=
  (by decide +kernel : ∀ t : Fin grid0.N, (win0_3.index t 0 = t.val / 4 ∧ win0_3.index t 1 = 0) ∧ (win0_3.index t 2 = t.val % 4 ∧ win0_3.index t 3 = 0))
theorem index4 : ∀ t : Fin cfg0.N, (win0_4.index t 0 = t.val / 4 ∧ win0_4.index t 1 = 0) ∧ win0_4.index t 2 = t.val % 4 :=
  (by decide +kernel : ∀ t : Fin grid0.N, (win0_4.index t 0 = t.val / 4 ∧ win0_4.index t 1 = 0) ∧ win0_4.index t 2 = t.val % 4)

/-- The sequence of grid point `t`. -/
def seqOf (t : Fin cfg0.N) : Fin 8 := ⟨t.val / 4, by have : t.val < 32 := t.isLt; omega⟩

theorem block0 (t : Fin cfg0.N) (j : Fin 4096) (f : Fin 256) :
    (iblk m c 0 t : Vec F S1x4096x256 .bf16) (ix3 0 j f)
      = hostQ (m ((c.tc : Thread nD τ).loc main_arg0)) (ix3 (seqOf t) j ⟨t.val % 4 * 256 + f.val, by omega⟩) := by
  rw [← V_q]
  have hi := index0 t
  unfold iblk
  rw [View.read_apply]
  show V m c main_v2 _ = V m c main_v2 _
  congr 1
  funext a
  apply Fin.ext
  match a with
  | ⟨0, _⟩ => show win0_0.index t 0 * 1 + 1 * 0 = t.val / 4; rw [hi.1.1]; omega
  | ⟨1, _⟩ => show win0_0.index t 1 * 4096 + 1 * j.val = j.val; rw [hi.1.2]; omega
  | ⟨2, _⟩ => show win0_0.index t 2 * 256 + 1 * f.val = t.val % 4 * 256 + f.val; rw [hi.2]; omega

theorem block1 (t : Fin cfg0.N) (j : Fin 4096) (f : Fin 256) :
    (iblk m c 1 t : Vec F S1x4096x256 .bf16) (ix3 0 j f)
      = hostKv (m ((c.tc : Thread nD τ).loc main_arg1)) (ix3 (seqOf t) j ⟨t.val % 4 * 256 + f.val, by omega⟩) := by
  rw [← V_kv]
  have hi := index1 t
  unfold iblk
  rw [View.read_apply]
  show V m c main_v3 _ = V m c main_v3 _
  congr 1
  funext a
  apply Fin.ext
  match a with
  | ⟨0, _⟩ => show win0_1.index t 0 * 1 + 1 * 0 = t.val / 4; rw [hi.1.1]; omega
  | ⟨1, _⟩ => show win0_1.index t 1 * 4096 + 1 * j.val = j.val; rw [hi.1.2]; omega
  | ⟨2, _⟩ => show win0_1.index t 2 * 256 + 1 * f.val = t.val % 4 * 256 + f.val; rw [hi.2]; omega

theorem block2 (t : Fin cfg0.N) (j : Fin 4096) (f : Fin 128) :
    (iblk m c 2 t : Vec F S1x4096x128 .bf16) (ix3 0 j f)
      = hostKpe (m ((c.tc : Thread nD τ).loc main_arg2)) (ix3 (seqOf t) j f) := by
  rw [← V_kpe]
  have hi := index2 t
  unfold iblk
  rw [View.read_apply]
  show V m c main_v8 _ = V m c main_v8 _
  congr 1
  funext a
  apply Fin.ext
  match a with
  | ⟨0, _⟩ => show win0_2.index t 0 * 1 + 1 * 0 = t.val / 4; rw [hi.1.1]; omega
  | ⟨1, _⟩ => show win0_2.index t 1 * 4096 + 1 * j.val = j.val; rw [hi.1.2]; omega
  | ⟨2, _⟩ => show win0_2.index t 2 * 128 + 1 * f.val = f.val; rw [hi.2]; omega

theorem block3 (t : Fin cfg0.N) (a : Fin 16) (f i : Fin 256) :
    (iblk m c 3 t : Vec F S1x16x256x256 .bf16) (ix4 0 a f i)
      = hostKvT (m ((c.tc : Thread nD τ).loc main_arg1)) (ix4 (seqOf t) a ⟨t.val % 4 * 256 + f.val, by omega⟩ i) := by
  rw [← V_kvT]
  have hi := index3 t
  unfold iblk
  rw [View.read_apply]
  show V m c main_v6 _ = V m c main_v6 _
  congr 1
  funext b
  apply Fin.ext
  match b with
  | ⟨0, _⟩ => show win0_3.index t 0 * 1 + 1 * 0 = t.val / 4; rw [hi.1.1]; omega
  | ⟨1, _⟩ => show win0_3.index t 1 * 16 + 1 * a.val = a.val; rw [hi.1.2]; omega
  | ⟨2, _⟩ => show win0_3.index t 2 * 256 + 1 * f.val = t.val % 4 * 256 + f.val; rw [hi.2.1]; omega
  | ⟨3, _⟩ => show win0_3.index t 3 * 256 + 1 * i.val = i.val; rw [hi.2.2]; omega

/-! ### What the host code hands over, entry by entry -/

/-- The padding. -/
theorem pad_zero : (FloatOps.sitofp .f32 (0#32 : BitVec 32) : Ideal .f32) = (0 : EReal) := by
  show (((0#32 : BitVec 32).toInt : ℝ) : EReal) = 0
  simp

theorem hostQ_apply (q : FVec Ideal S8x4096x8x96 .f32) (b : Fin 8) (j : Fin 4096) (h : Fin 8) (d : Fin 128) :
    hostQ q (ix3 b j ⟨h.val * 128 + d.val, by omega⟩) = if hd : d.val < 96 then q (ix4 b j h ⟨d.val, hd⟩) else 0 := by
  unfold hostQ
  pointwise
  rw [pad_zero]

theorem hostKv_apply (kv : FVec Ideal S8x4096x1024 .f32) (i : S8x4096x1024.Idx) : hostKv kv i = kv i := rfl

theorem hostKvT_apply (kv : FVec Ideal S8x4096x1024 .f32) (b : Fin 8) (a : Fin 16) (f : Fin 1024) (i : Fin 256) :
    hostKvT kv (ix4 b a f i) = kv (ix3 b ⟨256 * a.val + i.val, by omega⟩ f) := by
  unfold hostKvT
  pointwise
  exact congrArg (fun k => kv (ix3 b k f)) (Fin.ext (by show a.val * 256 + i.val = 256 * a.val + i.val; omega))

theorem hostKpe_apply (kpe : FVec Ideal S8x4096x32 .f32) (b : Fin 8) (j : Fin 4096) (d : Fin 128) :
    hostKpe kpe (ix3 b j d) = if hd : 64 ≤ d.val ∧ d.val < 96 then kpe (ix3 b j ⟨d.val - 64, by omega⟩) else 0 := by
  unfold hostKpe
  pointwise
  rw [pad_zero]
  by_cases hd : 64 ≤ d.val ∧ d.val < 96
  · rw [dif_pos hd, dif_pos (by omega)]
  · rw [dif_neg hd, dif_neg (by omega)]

end Cert.KernelIdeal.Attn
-- ==== Proof.Array.lean ====
/- THE CALL'S RESULT at an index: each entry is in the block of one grid point, which holds two heads of a sequence. -/
module

public import proofs.«01_k».proof.Proof.Block
public import proofs.«01_k».proof.Proof.Host

@[expose] public section

set_option maxRecDepth 16384

noncomputable section

namespace Cert.KernelIdeal.Attn

open Idealize.ShloMosaic Idealize.ShloMosaic.TcCoe Idealize.SL.Sem
open Cert.KernelIdeal Cert.KernelIdeal.Gen
open Cert.Attn

variable (m : (ℓ : Loc nD τ sig) → Buf (Elt Ideal) ℓ) (c : Dev nD)

/-- Device `c`'s queries, -/
abbrev argQ : QShape.Idx → EReal := m ((c.tc : Thread nD τ).loc main_arg0)
/-- the features of its keys and values, -/
abbrev argKv : KvShape.Idx → EReal := m ((c.tc : Thread nD τ).loc main_arg1)
/-- and its shared key features. -/
abbrev argKpe : KpeShape.Idx → EReal := m ((c.tc : Thread nD τ).loc main_arg2)

/-- The two heads of grid point `t`. -/
def headOf (t : Fin cfg0.N) (h : Fin 2) : Fin 8 := ⟨t.val % 4 * 2 + h.val, by omega⟩

/-- The blocks of a grid point are those of its sequence and its two heads. -/
theorem blocks_at (t : Fin cfg0.N) :
    Blocks (argQ m c) (argKv m c) (argKpe m c) (seqOf t) (headOf t) (iblk m c 0 t) (iblk m c 1 t) (iblk m c 2 t) (iblk m c 3 t) := by
  have he : ∀ (h : Fin 2) (d : Fin 128), (⟨t.val % 4 * 256 + (h.val * 128 + d.val), by omega⟩ : Fin 1024)
      = ⟨(headOf t h).val * 128 + d.val, by omega⟩ := fun h d => Fin.ext (by
    show t.val % 4 * 256 + (h.val * 128 + d.val) = (t.val % 4 * 2 + h.val) * 128 + d.val
    omega)
  refine ⟨fun j h d => ?_, fun k h d => ?_, fun k d => ?_, fun a h d i => ?_⟩
  · refine (block0 m c t j ⟨h.val * 128 + d.val, by omega⟩).trans (Eq.trans ?_ (hostQ_apply _ (seqOf t) j (headOf t h) d))
    exact congrArg (fun e => hostQ (F := Ideal) (argQ m c) (ix3 (seqOf t) j e)) (he h d)
  · refine (block1 m c t k ⟨h.val * 128 + d.val, by omega⟩).trans ((hostKv_apply _ _).trans ?_)
    exact congrArg (fun e => argKv m c (ix3 (seqOf t) k e)) (he h d)
  · exact (block2 m c t k d).trans (hostKpe_apply _ (seqOf t) k d)
  · refine (block3 m c t a ⟨h.val * 128 + d.val, by omega⟩ i).trans ((hostKvT_apply _ (seqOf t) a _ i).trans ?_)
    exact congrArg (fun e => argKv m c (ix3 (seqOf t) ⟨256 * a.val + i.val, by omega⟩ e)) (he h d)

/-- The grid point that writes feature `o` of sequence `b`. -/
def pointOf (b : Fin 8) (o : Fin 512) : Fin cfg0.N := ⟨b.val * 4 + o.val / 128, by show _ < 32; omega⟩

/-- The result array at an index. -/
theorem array_apply (hq : Finite (argQ m c)) (hkv : Finite (argKv m c)) (hkpe : Finite (argKpe m c)) (b : Fin 8) (p : Fin 4096)
    (o : Fin 512) :
    (dats m 0 c).arrAt 4 cfg0.N (ix3 b p o)
      = (result (argQ m c) (argKv m c) (argKpe m c) b ⟨o.val / 64, by omega⟩ p ⟨o.val % 64, by omega⟩ : EReal) := by
  have ht : (pointOf b o).val = b.val * 4 + o.val / 128 := rfl
  have hi := index4 (pointOf b o)
  have hb := congrFun (Value.blocks4 m c (pointOf b o) (flush0_4 _)) (ix3 0 p ⟨(⟨o.val % 128 / 64, by omega⟩ : Fin 2).val * 64 + o.val % 64, by
    show o.val % 128 / 64 * 64 + o.val % 64 < 128; omega⟩)
  rw [View.read_apply] at hb
  have he : ((cfg0.win 4).blk (pointOf b o)).view.emb (ix3 0 p ⟨(⟨o.val % 128 / 64, by omega⟩ : Fin 2).val * 64 + o.val % 64, by
    show o.val % 128 / 64 * 64 + o.val % 64 < 128; omega⟩) = (ix3 b p o : S8x4096x512.Idx) := by
    funext a
    apply Fin.ext
    match a with
    | ⟨0, _⟩ => show win0_4.index (pointOf b o) 0 * 1 + 1 * 0 = b.val; rw [hi.1.1]; omega
    | ⟨1, _⟩ => show win0_4.index (pointOf b o) 1 * 4096 + 1 * p.val = p.val; rw [hi.1.2]; omega
    | ⟨2, _⟩ =>
      show win0_4.index (pointOf b o) 2 * 128 + 1 * (o.val % 128 / 64 * 64 + o.val % 64) = o.val
      rw [hi.2]; omega
  rw [he] at hb
  refine Eq.trans hb ?_
  rw [Value.flushed4_A]
  refine Eq.trans (block_result (seqOf (pointOf b o)) (headOf (pointOf b o)) c _ _ _ _ _ _ _ _ _ _ _ _ _ _ _ _ _ hq hkv hkpe
    (blocks_at m c (pointOf b o)) p ⟨o.val % 128 / 64, by omega⟩ ⟨o.val % 64, by omega⟩) ?_
  have h1 : seqOf (pointOf b o) = b := Fin.ext (by show (b.val * 4 + o.val / 128) / 4 = b.val; omega)
  have h2 : headOf (pointOf b o) ⟨o.val % 128 / 64, by omega⟩ = ⟨o.val / 64, by omega⟩ :=
    Fin.ext (by show (b.val * 4 + o.val / 128) % 4 * 2 + o.val % 128 / 64 = o.val / 64; omega)
  rw [h1, h2]

end Cert.KernelIdeal.Attn
-- ==== Proof.Finite.lean ====
/- THE PRECONDITION: where the three reductions say 1, every input is a real. -/
module

public import proofs.«01_k».proof.Pre_finite
public import proofs.«01_k».proof.Proof.Spec
public import Idealize.ShloMosaic.Lib.ReduceAll
public import Idealize.ShloMosaic.Lib.Pointwise

@[expose] public section

set_option maxRecDepth 16384

noncomputable section

namespace Cert.Pre_finite.Attn

open Idealize.ShloMosaic
open Cert.Pre_finite Cert.Attn

/-- The comparison's bound: the word of positive infinity. -/
theorem bound_eq : (FloatOps.ofBits (F := Ideal) .f32 0x7F800000#32 : EReal) = ⊤ := by
  simp [Ideal.ofBits, Ideal.ieee]

/-- A value below infinity in size is a real. -/
theorem real_of_lt (x : EReal) (h : Ideal.cmp .olt (max x (-x)) ⊤ = 1#1) : x = (x.toReal : EReal) := by
  have hlt : max x (-x) < ⊤ := by
    by_contra hn
    rw [Ideal.cmp] at h
    simp [hn] at h
  rw [max_lt_iff] at hlt
  refine (EReal.coe_toReal hlt.1.ne ?_).symm
  rintro rfl
  simp at hlt

instance : Subsingleton S_.Idx := ⟨fun a b => funext fun i => i.elim0⟩

/-- A conjunction of two bits is 1 when both are. -/
theorem and_eq_one (a b : BitVec 1) (h : IntOp.andi a b = 1#1) : a = 1#1 ∧ b = 1#1 := by
  revert a b
  decide

/-- The side conditions of the precondition's operations. -/
theorem facts : Facts := by
  constructor <;> decide

variable [Facts]

/-- One argument's part of the conjunction. -/
theorem finite_of {s : Shape} {axes : List (Fin s.rank)} (x : s.Idx → EReal) (hb : S_.BroadcastsInDim s (![] : Fin 0 → Fin s.rank))
    (hr : s.ReducesTo axes S_) (j : S_.Idx)
    (h : Host.reduce IntOp.andi (cmpf .olt (Host.absf (F := Ideal) (φ := .f32) x)
      (broadcastInDim s ![] hb (constant (F := Ideal) S_ .f32 0x7F800000#32))) (constantI S_ 1 1#1) hr Facts.h_S_ j = 1#1) (i : s.Idx) :
    x i = ((x i).toReal : EReal) := by
  have e := Host.reduce_andi_all _ _ _ _ _ h i
  refine real_of_lt _ ?_
  rw [← bound_eq]
  exact e

/-- The precondition makes every input a real. -/
theorem finite (q : QShape.Idx → EReal) (kv : KvShape.Idx → EReal) (kpe : KpeShape.Idx → EReal)
    (h : Cert.Pre_finite.fn (F := Ideal) q kv kpe = fun _ => 1#1) : Finite q ∧ Finite kv ∧ Finite kpe := by
  have e := congrFun h (Shape.Idx.first Facts.h_S_)
  have e1 := and_eq_one _ _ e
  have e2 := and_eq_one _ _ e1.1
  exact ⟨finite_of q Facts.bcast_S_S8x4096x8x96 Facts.reducesTo_S8x4096x8x96_S_d0_1_2_3 (Shape.Idx.first Facts.h_S_) e2.1,
    finite_of kv Facts.bcast_S_S8x4096x1024 Facts.reducesTo_S8x4096x1024_S_d0_1_2 (Shape.Idx.first Facts.h_S_) e2.2,
    finite_of kpe Facts.bcast_S_S8x4096x32 Facts.reducesTo_S8x4096x32_S_d0_1_2 (Shape.Idx.first Facts.h_S_) e1.2⟩

end Cert.Pre_finite.Attn
-- ==== Proof.RefValue.lean ====
/- THE REFERENCE'S RESULT at an index: its term read in four parts, the scores, their exponentials under each row's
   maximum, the sum over them, and the weighted sum of values. -/
module

public import proofs.«01_k».proof.Proof.Gen.ReferenceIdeal.Run
public import proofs.«01_k».proof.Proof.Spec
public import Idealize.ShloMosaic.Lib.Pointwise
public import Idealize.ShloMosaic.Lib.WordCmp

@[expose] public section

set_option maxRecDepth 16384

noncomputable section

namespace Cert.ReferenceIdeal.Attn

open Cert.ReferenceIdeal Cert.ReferenceIdeal.Gen Idealize.ShloMosaic Idealize.ShloMosaic.TcCoe Idealize.SL.Sem

variable {F : FTy → Type} [FloatOps F]

/-- The keys: each head's own features, then the ones all heads share. -/
def keys (kv : FVec F S8x4096x1024 .f32) (kpe : FVec F S8x4096x32 .f32) : FVec F S8x8x4096x96 .f32 :=
  transpose S8x8x4096x96 [0, 2, 1, 3]
    (concatenate S8x4096x8x96 3
      [⟨S8x4096x8x64, extractStridedSlice S8x4096x8x64 ![0, 0, 0, 0]
          (shapeCast S8x4096x8x128 kv shapeCasts_S8x4096x1024_S8x4096x8x128) slices_S8x4096x8x128_S8x4096x8x64_0_0_0_0⟩,
       ⟨S8x4096x8x32, broadcastInDim S8x4096x8x32 ![0, 1, 2, 3] bcast_S8x4096x1x32_S8x4096x8x32_0_1_2_3
          (broadcastInDim S8x4096x1x32 ![0, 1, 3] bcast_S8x4096x32_S8x4096x1x32_0_1_3 kpe)⟩]
      concatenates_S8x4096x8x64_S8x4096x8x32_S8x4096x8x96_d3) transposes_S8x4096x8x96_S8x8x4096x96_0_2_1_3

/-- The values. -/
def values (kv : FVec F S8x4096x1024 .f32) : FVec F S8x8x4096x64 .f32 :=
  transpose S8x8x4096x64 [0, 2, 1, 3]
    (extractStridedSlice S8x4096x8x64 ![0, 0, 0, 64]
      (shapeCast S8x4096x8x128 kv shapeCasts_S8x4096x1024_S8x4096x8x128) slices_S8x4096x8x128_S8x4096x8x64_0_0_0_64)
    transposes_S8x4096x8x64_S8x8x4096x64_0_2_1_3

/-- The scores, scaled and masked. -/
def scores (q : FVec F S8x4096x8x96 .f32) (k : FVec F S8x8x4096x96 .f32) : FVec F S8x8x4096x4096 .f32 :=
  select (broadcastInDim S8x8x4096x4096 ![2, 3] bcast_S4096x4096_S8x8x4096x4096_2_3
      (cmpi .sle
        (broadcastInDim S4096x4096 ![0, 1] bcast_S1x4096_S4096x4096_0_1
          (broadcastInDim S1x4096 ![1] bcast_S4096_S1x4096_1 (iotaInDim S4096 32 0)))
        (broadcastInDim S4096x4096 ![0, 1] bcast_S4096x1_S4096x4096_0_1
          (broadcastInDim S4096x1 ![0] bcast_S4096_S4096x1_0 (iotaInDim S4096 32 0)))))
    (Host.divf
      (Host.dotGeneral dot_S8x8x4096x96_S8x8x4096x96_S8x8x4096x4096_3_3_2_2_01_01 none
        (transpose S8x8x4096x96 [0, 2, 1, 3] q transposes_S8x4096x8x96_S8x8x4096x96_0_2_1_3) k)
      (broadcastInDim S8x8x4096x4096 ![] bcast_S_S8x8x4096x4096 (Host.sqrt (constant S_ .f32 0x42C00000#32))))
    (broadcastInDim S8x8x4096x4096 ![] bcast_S_S8x8x4096x4096 (id (constant S_ .f32 0xFF800000#32)))

/-- Each row's largest score. -/
def rowMax (s : FVec F S8x8x4096x4096 .f32) : FVec F S8x8x4096 .f32 :=
  Host.reduce FloatOps.maximumf s (constant S_ .f32 0xFF800000#32) reducesTo_S8x8x4096x4096_S8x8x4096_d3 h_S_

/-- The exponentials of the scores less their rows' maxima. -/
def exps (s : FVec F S8x8x4096x4096 .f32) (r : FVec F S8x8x4096 .f32) : FVec F S8x8x4096x4096 .f32 :=
  Host.exp (subf s
    (broadcastInDim S8x8x4096x4096 ![0, 1, 2, 3] bcast_S8x8x4096x1_S8x8x4096x4096_0_1_2_3
      (broadcastInDim S8x8x4096x1 ![0, 1, 2] bcast_S8x8x4096_S8x8x4096x1_0_1_2
        (maximumf (broadcastInDim S8x8x4096 ![] bcast_S_S8x8x4096 (constant S_ .f32 0xFF800000#32)) r))))

/-- The exponentials over their rows' sums. -/
def probs (e : FVec F S8x8x4096x4096 .f32) : FVec F S8x8x4096x4096 .f32 :=
  Host.divf e
    (broadcastInDim S8x8x4096x4096 ![0, 1, 2, 3] bcast_S8x8x4096x1_S8x8x4096x4096_0_1_2_3
      (broadcastInDim S8x8x4096x1 ![0, 1, 2] bcast_S8x8x4096_S8x8x4096x1_0_1_2
        (Host.reduceAdd e (constant S_ .f32 0x00000000#32) reducesTo_S8x8x4096x4096_S8x8x4096_d3 h_S_)))

/-- The weighted sums of values, the heads side by side. -/
def mixed (p : FVec F S8x8x4096x4096 .f32) (v : FVec F S8x8x4096x64 .f32) : FVec F S8x4096x512 .bf16 :=
  truncf .bf16
    (shapeCast S8x4096x512
      (transpose S8x4096x8x64 [0, 2, 1, 3]
        (Host.dotGeneral dot_S8x8x4096x4096_S8x8x4096x64_S8x8x4096x64_3_2_2_3_01_01 none p v)
        transposes_S8x8x4096x64_S8x4096x8x64_0_2_1_3) shapeCasts_S8x4096x8x64_S8x4096x512) bitsLt_bf16_f32

theorem res_eq (m : (ℓ : Loc nD τ sig) → Buf (Elt F) ℓ) (c : Dev nD) :
    Value.res_main_v34 m c
      = mixed (probs (exps (scores (m ((c.tc : Thread nD τ).loc main_arg0))
            (keys (m ((c.tc : Thread nD τ).loc main_arg1)) (m ((c.tc : Thread nD τ).loc main_arg2))))
          (rowMax (scores (m ((c.tc : Thread nD τ).loc main_arg0))
            (keys (m ((c.tc : Thread nD τ).loc main_arg1)) (m ((c.tc : Thread nD τ).loc main_arg2)))))))
        (values (m ((c.tc : Thread nD τ).loc main_arg1))) := rfl

open Cert.Attn

theorem keys_apply (kv : FVec Ideal S8x4096x1024 .f32) (kpe : FVec Ideal S8x4096x32 .f32) (b h : Fin 8) (k : Fin 4096)
    (d : Fin 96) : keys kv kpe (ix4 b h k d) = key kv kpe b h k d := by
  unfold keys
  pointwise
  rfl

theorem values_apply (kv : FVec Ideal S8x4096x1024 .f32) (b h : Fin 8) (k : Fin 4096) (d : Fin 64) :
    values kv (ix4 b h k d) = kv (ix3 b k ⟨h.val * 128 + (64 + d.val), by omega⟩) := by
  unfold values
  pointwise

theorem neg_inf : Ideal.ofBits .f32 0xFF800000#32 = ⊥ := by simp [Ideal.ofBits, Ideal.ieee]

theorem ninety_six : Ideal.ofBits .f32 0x42C00000#32 = ((96 : ℝ) : EReal) := by
  simp [Ideal.ofBits, Ideal.ieee, -EReal.coe_mul]; norm_num

theorem scores_apply (q : FVec Ideal S8x4096x8x96 .f32) (K : FVec Ideal S8x8x4096x96 .f32) (b h : Fin 8) (p k : Fin 4096) :
    scores q K (ix4 b h p k)
      = if k.val ≤ p.val then (∑ d : Fin 96, q (ix4 b p h d) * K (ix4 b h k d)) * (((√96)⁻¹ : ℝ) : EReal) else ⊥ := by
  unfold scores
  pointwise
  have hk := k.isLt
  have hp := p.isLt
  have hs : Ideal.sqrt (Ideal.ofBits .f32 0x42C00000#32) = ((√96 : ℝ) : EReal) := by
    rw [ninety_six, Ideal.sqrt_coe, if_neg (by norm_num)]
  rw [WordCmp.cmpi_sle_ofNat (by omega) (by omega), WordCmp.select_decide, hs, Ideal.div_coe (by positivity), one_div]
  exact if_congr Iff.rfl rfl neg_inf

theorem rowMax_apply (s : FVec Ideal S8x8x4096x4096 .f32) (b h : Fin 8) (p : Fin 4096) :
    rowMax s (ix3 b h p) = Finset.univ.sup fun k : Fin 4096 => s (ix4 b h p k) := by
  refine (Host.reduce_eq_fold _ s _ _ _ (ix3 b h p)).trans ?_
  refine (Shape.ReducesTo.fold_fiber_r4_a3 reducesTo_S8x8x4096x4096_S8x8x4096_d3 (ix3 b h p) _ _ s).trans ?_
  have hb : (constant S_ .f32 0xFF800000#32 : FVec Ideal S_ .f32) (Shape.Idx.first h_S_) = ⊥ := neg_inf
  rw [hb]
  exact Finset.fold_congr fun k _ => congrArg s rfl

theorem exps_apply (s : FVec Ideal S8x8x4096x4096 .f32) (r : FVec Ideal S8x8x4096 .f32) (b h : Fin 8) (p k : Fin 4096) :
    exps s r (ix4 b h p k) = Ideal.exp (s (ix4 b h p k) - r (ix3 b h p)) := by
  unfold exps
  pointwise
  rw [neg_inf, max_eq_right bot_le]

theorem probs_apply (e : FVec Ideal S8x8x4096x4096 .f32) (b h : Fin 8) (p k : Fin 4096) :
    probs e (ix4 b h p k) = Ideal.div (e (ix4 b h p k)) (∑ x : Fin 4096, e (ix4 b h p x)) := by
  unfold probs
  pointwise

theorem mixed_apply (p : FVec Ideal S8x8x4096x4096 .f32) (v : FVec Ideal S8x8x4096x64 .f32) (b : Fin 8) (r : Fin 4096)
    (o : Fin 512) :
    mixed p v (ix3 b r o)
      = ∑ k : Fin 4096, p (ix4 b ⟨o.val / 64, by omega⟩ r k) * v (ix4 b ⟨o.val / 64, by omega⟩ k ⟨o.val % 64, by omega⟩) := by
  unfold mixed
  pointwise

theorem sup_range {n : ℕ} (f : ℕ → EReal) : (Finset.univ.sup fun i : Fin n => f i.val) = top f n := by
  refine le_antisymm (Finset.sup_le fun i _ => ?_) (Finset.sup_le fun i hi => ?_)
  · exact Finset.le_sup (f := f) (Finset.mem_range.mpr i.isLt)
  · exact Finset.le_sup (f := fun i : Fin n => f i.val) (Finset.mem_univ ⟨i, Finset.mem_range.mp hi⟩)

variable {q : FVec Ideal S8x4096x8x96 .f32} {kv : FVec Ideal S8x4096x1024 .f32} {kpe : FVec Ideal S8x4096x32 .f32}

theorem scores_finite (hq : Finite q) (hkv : Finite kv) (hkpe : Finite kpe) (b h : Fin 8) (p k : Fin 4096) :
    scores q (keys kv kpe) (ix4 b h p k) = masked (score q kv kpe b h p) (p.val + 1) k.val := by
  rw [scores_apply]
  simp only [keys_apply]
  rw [dot_finite hq hkv hkpe, masked, score, dif_pos k.isLt, EReal.coe_mul]
  exact if_congr Nat.lt_succ_iff.symm rfl rfl

/-- The reference's result over finite arguments. -/
theorem reference_finite (hq : Finite q) (hkv : Finite kv) (hkpe : Finite kpe) (b : Fin 8) (p : Fin 4096) (o : Fin 512) :
    mixed (probs (exps (scores q (keys kv kpe)) (rowMax (scores q (keys kv kpe))))) (values kv) (ix3 b p o)
      = (result q kv kpe b ⟨o.val / 64, by omega⟩ p ⟨o.val % 64, by omega⟩ : EReal) := by
  rw [mixed_apply]
  simp only [probs_apply, exps_apply, rowMax_apply, scores_finite hq hkv hkpe, values_apply]
  rw [sup_range, result, ← normalized_sum (score q kv kpe b ⟨o.val / 64, by omega⟩ p)
    (value kv b ⟨o.val / 64, by omega⟩ ⟨o.val % 64, by omega⟩) (n := p.val + 1) (N := 4096) (by omega) (by omega)]
  rw [← Fin.sum_univ_eq_sum_range (fun k => Ideal.exp (masked (score q kv kpe b ⟨o.val / 64, by omega⟩ p) (p.val + 1) k
    - top (masked (score q kv kpe b ⟨o.val / 64, by omega⟩ p) (p.val + 1)) 4096)) 4096]
  refine Eq.trans (Finset.sum_congr rfl fun k _ => congrArg (HMul.hMul (α := EReal) _)
    (value_finite hkv b ⟨o.val / 64, by omega⟩ ⟨o.val % 64, by omega⟩ k)) ?_
  exact Fin.sum_univ_eq_sum_range (fun k => Ideal.div (Ideal.exp (masked (score q kv kpe b ⟨o.val / 64, by omega⟩ p)
    (p.val + 1) k - top (masked (score q kv kpe b ⟨o.val / 64, by omega⟩ p) (p.val + 1)) 4096)) _
      * (value kv b ⟨o.val / 64, by omega⟩ ⟨o.val % 64, by omega⟩ k : EReal)) 4096

end Cert.ReferenceIdeal.Attn
-- ==== Proof.MergeSpec.lean ====
/- WHAT THE MERGE COMPUTES, token by token, over the extended reals: the gated sum of the two branches, projected and
   added to the residual stream; that row over its root mean square; and the row's scores against the experts' keys. -/
module

public import Idealize.ShloMosaic.Lib.Pointwise

@[expose] public section

set_option maxRecDepth 16384

noncomputable section

namespace Cert.Merging

open Idealize.ShloMosaic

/-- What one token brings: its residual row, the two branches' outputs, and the two gates' values. -/
@[ext] structure Row where
  x : Fin 1024 → EReal
  ya : Fin 512 → EReal
  yb : Fin 512 → EReal
  sa : Fin 1024 → EReal
  sb : Fin 1024 → EReal

/-- The weights all tokens share. -/
@[ext] structure Weights where
  wba : Fin 512 → Fin 1024 → EReal
  wbb : Fin 512 → Fin 1024 → EReal
  wout : Fin 1024 → Fin 1024 → EReal
  g : Fin 1024 → EReal
  wpq : Fin 1024 → Fin 2048 → EReal

/-- A gate's value: the logistic function, as both programs write it. -/
def gate (z : EReal) : EReal := Ideal.div 1 (1 + Ideal.exp (-z))

variable (W : Weights) (R : Row)

/-- The gated sum of the branches. -/
def merged (k : Fin 1024) : EReal :=
  R.sa k * (∑ j : Fin 512, R.ya j * W.wba j k) + R.sb k * (∑ j : Fin 512, R.yb j * W.wbb j k)

/-- The residual row after the merge. -/
def resid (k : Fin 1024) : EReal := R.x k + ∑ j : Fin 1024, merged W R j * W.wout j k

/-- That row over its root mean square, scaled. -/
def normed (k : Fin 1024) : EReal :=
  resid W R k
    * Ideal.rsqrt (Ideal.div (∑ j : Fin 1024, resid W R j * resid W R j) (Ideal.ofBits .f32 0x44800000#32)
        + Ideal.ofBits .f32 0x358637BD#32)
    * W.g k

/-- The row's queries to the experts' keys. -/
def query (o : Fin 2048) : EReal := ∑ k : Fin 1024, normed W R k * W.wpq k o

/-- The score of one key against the 128 query features from `o` on. -/
def score (sk : Fin 128 → EReal) (o : Nat) (ho : o + 128 ≤ 2048) : EReal :=
  ∑ d : Fin 128, sk d * query W R ⟨o + d.val, by omega⟩

/-! ### Tokens and weights of the arrays given -/

/-- Token `s` of sequence `b`. -/
def token (x : (⟨3, ![8, 4096, 1024]⟩ : Shape).Idx → EReal) (ya yb : (⟨3, ![8, 4096, 512]⟩ : Shape).Idx → EReal)
    (ga gb : (⟨3, ![8, 4096, 1024]⟩ : Shape).Idx → EReal) (b : Fin 8) (s : Fin 4096) : Row where
  x k := x (ix3 b s k)
  ya j := ya (ix3 b s j)
  yb j := yb (ix3 b s j)
  sa k := gate (ga (ix3 b s k))
  sb k := gate (gb (ix3 b s k))

/-- The weights. -/
def weights (wba wbb : (⟨2, ![512, 1024]⟩ : Shape).Idx → EReal) (wout : (⟨2, ![1024, 1024]⟩ : Shape).Idx → EReal)
    (g : (⟨1, ![1024]⟩ : Shape).Idx → EReal) (wpq : (⟨2, ![1024, 2048]⟩ : Shape).Idx → EReal) : Weights where
  wba j k := wba (ix2 j k)
  wbb j k := wbb (ix2 j k)
  wout j k := wout (ix2 j k)
  g k := g (ix1 k)
  wpq k o := wpq (ix2 k o)

/-- The sequence of token number `r`, the sequences one after the other, -/
def seqAt (r : Fin 32768) : Fin 8 := ⟨r.val / 4096, by omega⟩
/-- and its place in the sequence. -/
def placeAt (r : Fin 32768) : Fin 4096 := ⟨r.val % 4096, by omega⟩

/-- An array of tokens laid out one sequence after the other. -/
theorem flat_apply {m : Nat} {α : Type} (x : (⟨3, ![8, 4096, m]⟩ : Shape).Idx → α)
    (h : Shape.ShapeCasts ⟨3, ![8, 4096, m]⟩ ⟨2, ![32768, m]⟩) (r : Fin 32768) (k : Fin m) :
    shapeCast ⟨2, ![32768, m]⟩ x h (ix2 r k) = x (ix3 (seqAt r) (placeAt r) k) := by
  refine shapeCast_apply x h (ix2 r k) (ix3 (seqAt r) (placeAt r) k) ?_
  rw [Shape.rowMajor_val_three, Shape.rowMajor_val_two]
  show (r.val / 4096 * 4096 + r.val % 4096) * m + k.val = r.val * m + k.val
  rw [Nat.div_add_mod']

end Cert.Merging
-- ==== Proof.MergeBlock.lean ====
/- ONE GRID POINT OF THE MERGE: what the body stores for 256 tokens, at an index, from the blocks it loads. -/
module

public import proofs.«01_k».proof.Proof.Gen.MergeIdeal.Frame
public import proofs.«01_k».proof.Proof.MergeSpec
public import proofs.«01_k».proof.Proof.StepValue

@[expose] public section

set_option maxRecDepth 16384

noncomputable section

namespace Cert.MergeIdeal.Rows

open Idealize.ShloMosaic Idealize.SL.Sem
open Cert.MergeIdeal Cert.MergeIdeal.Gen
open Cert.Merging
open Cert.KernelIdeal.Attn (product_apply)

/-- A product of `n` rows with the transpose of `w` rows, from zero. -/
theorem product_nt {n m w : Nat} (W : DotDims.WF ⟨2, ![n, m]⟩ ⟨2, ![w, m]⟩ ⟨2, ![n, w]⟩ [1] [1] [0] [0] [] [])
    (a : FVec Ideal ⟨2, ![n, m]⟩ .bf16) (b : FVec Ideal ⟨2, ![w, m]⟩ .bf16) (i : Fin n) (j : Fin w) :
    matmul ⟨[1], [1], [0], [0], [], [], W⟩ none a b (constant ⟨2, ![n, w]⟩ .f32 0x00000000#32) (ix2 i j)
      = ∑ d : Fin m, a (ix2 i d) * b (ix2 j d) := by
  refine (Ideal.matmul_transposedRhs_apply (M := n) (K := m) (N := w) none a b _ i j).trans ?_
  have h0 : (constant (F := Ideal) ⟨2, ![n, w]⟩ .f32 0x00000000#32 (ix2 i j) : EReal) = 0 := by pointwise
  exact (congrArg (· + _) h0).trans (zero_add _)

section Values

variable (v0 : Vec Ideal S256x1024 .bf16) (v3 : Vec Ideal S256x512 .bf16) (v5 : Vec Ideal S512x1024 .bf16)
  (v9 : Vec Ideal S256x1024 .bf16) (v12 : Vec Ideal S256x512 .bf16) (v14 : Vec Ideal S512x1024 .bf16)
  (v19 : Vec Ideal S256x1024 .f32) (v22 : Vec Ideal S1024x1024 .bf16) (v27 : Vec Ideal S1x1024 .f32)
  (v43 : Vec Ideal S1024x2048 .bf16)

/-- The token in row `i` of the loaded blocks. -/
def rowOf (i : Fin 256) : Row where
  x k := v19 (ix2 i k)
  ya j := v3 (ix2 i j)
  yb j := v12 (ix2 i j)
  sa k := v0 (ix2 i k)
  sb k := v9 (ix2 i k)

/-- The weights loaded. -/
def weightsOf : Weights where
  wba j k := v5 (ix2 j k)
  wbb j k := v14 (ix2 j k)
  wout j k := v22 (ix2 j k)
  g k := v27 (ix2 0 k)
  wpq k o := v43 (ix2 k o)

theorem branch_apply (a : FVec Ideal S256x512 .bf16) (b : FVec Ideal S512x1024 .bf16) (i : Fin 256) (k : Fin 1024) :
    matmul dot_S256x512_S512x1024_S256x1024_1_0_0_1_n_n none a b (constant S256x1024 .f32 0x00000000#32) (ix2 i k)
      = ∑ j : Fin 512, a (ix2 i j) * b (ix2 j k) :=
  product_apply _ a b i k

theorem output_apply (a : FVec Ideal S256x1024 .bf16) (b : FVec Ideal S1024x1024 .bf16) (i : Fin 256) (k : Fin 1024) :
    matmul dot_S256x1024_S1024x1024_S256x1024_1_0_0_1_n_n none a b (constant S256x1024 .f32 0x00000000#32) (ix2 i k)
      = ∑ j : Fin 1024, a (ix2 i j) * b (ix2 j k) :=
  product_apply _ a b i k

theorem queries_apply (a : FVec Ideal S256x1024 .bf16) (b : FVec Ideal S1024x2048 .bf16) (i : Fin 256) (o : Fin 2048) :
    matmul dot_S256x1024_S1024x2048_S256x2048_1_0_0_1_n_n none a b (constant S256x2048 .f32 0x00000000#32) (ix2 i o)
      = ∑ k : Fin 1024, a (ix2 i k) * b (ix2 k o) :=
  product_apply _ a b i o

/-- The residual rows stored. -/
theorem pay3_apply (i : Fin 256) (k : Fin 1024) :
    k0_pay3 v0 v3 v5 v9 v12 v14 v19 v22 (ix2 i k)
      = resid (weightsOf v5 v14 v22 v27 v43) (rowOf v0 v3 v9 v12 v19 i) k := by
  unfold k0_pay3
  simp only [shapeCast_self]
  rw [ValueIdx.addf_apply]
  refine congrArg (HAdd.hAdd (α := EReal) _) ((output_apply _ _ i k).trans ?_)
  refine Finset.sum_congr rfl fun j _ => congrArg (HMul.hMul (α := EReal) · _) ?_
  refine Eq.trans (ValueIdx.addf_apply _ _ _) ?_
  rw [ValueIdx.mulf_apply, ValueIdx.mulf_apply, branch_apply, branch_apply]
  rfl

/-- The sum of a row's squares. -/
theorem pay5_apply (i : Fin 256) :
    k0_pay5 v0 v3 v5 v9 v12 v14 v19 v22 (ix2 i 0)
      = ∑ k : Fin 1024, resid (weightsOf v5 v14 v22 v27 v43) (rowOf v0 v3 v9 v12 v19 i) k
          * resid (weightsOf v5 v14 v22 v27 v43) (rowOf v0 v3 v9 v12 v19 i) k := by
  unfold k0_pay5
  refine (shapeCast_apply _ _ (ix2 i 0) (ix1 i) ?_).trans ?_
  · rw [Shape.rowMajor_val_one, Shape.rowMajor_val_two]
    show i.val = i.val * 1 + 0
    omega
  refine (reduces_S256x1024_S256.sum_fiber_r2_a1 (ix1 i) _).trans ?_
  exact Finset.sum_congr rfl fun k _ => congrArg₂ (HMul.hMul (α := EReal)) (pay3_apply v0 v3 v5 v9 v12 v14 v19 v22 v27 v43 i k)
    (pay3_apply v0 v3 v5 v9 v12 v14 v19 v22 v27 v43 i k)

/-- The normed rows stored. -/
theorem pay7_apply (i : Fin 256) (k : Fin 1024) :
    k0_pay7 (k0_pay3 v0 v3 v5 v9 v12 v14 v19 v22) (k0_pay4 v27) (k0_pay5 v0 v3 v5 v9 v12 v14 v19 v22) k0_pay6 (ix2 i k)
      = normed (weightsOf v5 v14 v22 v27 v43) (rowOf v0 v3 v9 v12 v19 i) k := by
  have h4 : k0_pay4 v27 = v27 := by unfold k0_pay4; exact shapeCast_self _ _
  rw [h4]
  unfold k0_pay7
  refine Eq.trans (ValueIdx.mulf_apply _ _ _) ?_
  refine congrArg₂ (HMul.hMul (α := EReal)) ?_ ?_
  · refine Eq.trans (ValueIdx.mulf_apply _ _ _) ?_
    refine congrArg₂ (HMul.hMul (α := EReal)) (pay3_apply v0 v3 v5 v9 v12 v14 v19 v22 v27 v43 i k) ?_
    refine (broadcastTo_apply _ _ (ix2 i k) (ix2 i 0) (fun a => match a with
      | ⟨0, _⟩ => by show i.val = (if (256 : Nat) = 1 then 0 else i.val); rw [if_neg (by decide)]
      | ⟨1, _⟩ => by show 0 = (if (1 : Nat) = 1 then 0 else k.val); rw [if_pos rfl])).trans ?_
    show Ideal.rsqrt (Ideal.div (k0_pay5 v0 v3 v5 v9 v12 v14 v19 v22 (ix2 i 0)) _ + _) = _
    rw [pay5_apply v0 v3 v5 v9 v12 v14 v19 v22 v27 v43 i]
    rfl
  · exact ValueIdx.broadcastTo_1b_ab_apply _ _ i k

/-- The queries of the rows. -/
theorem pay8_apply (i : Fin 256) (o : Fin 2048) :
    k0_pay8 (k0_pay3 v0 v3 v5 v9 v12 v14 v19 v22) (k0_pay4 v27) (k0_pay5 v0 v3 v5 v9 v12 v14 v19 v22) k0_pay6 v43 (ix2 i o)
      = query (weightsOf v5 v14 v22 v27 v43) (rowOf v0 v3 v9 v12 v19 i) o := by
  unfold k0_pay8
  simp only [shapeCast_self]
  refine Eq.trans (queries_apply _ _ i o) ?_
  exact Finset.sum_congr rfl fun k _ =>
    congrArg (HMul.hMul (α := EReal) · _) (pay7_apply v0 v3 v5 v9 v12 v14 v19 v22 v27 v43 i k)

/-- One head's scores: the keys of an axis of one element, against 128 features of the queries. -/
theorem score_apply (q : FVec Ideal S256x2048 .bf16) (sk : Vec Ideal S1x128x128 .bf16) (o : Nat) (ho : o + 128 ≤ 2048)
    (hs : S256x2048.Slices ![0, o] S256x128) (n : Fin 128) (i : Fin 256) :
    shapeCast S1x128x256
      (matmul dot_S128x128_S256x128_S128x256_1_1_0_0_n_n none
        (shapeCast S128x128 sk shapeCasts_S1x128x128_S128x128 : FVec Ideal S128x128 .bf16)
        (extractStridedSlice S256x128 ![0, o] q hs) (constant S128x256 .f32 0x00000000#32))
      shapeCasts_S128x256_S1x128x256 (ix3 0 n i)
      = ∑ d : Fin 128, sk (ix3 0 n d) * q (ix2 i ⟨o + d.val, by omega⟩) := by
  refine (ValueIdx.shapeCast_ab_1ab_apply _ _ 0 n i).trans ((product_nt _ _ _ n i).trans ?_)
  refine Finset.sum_congr rfl fun d _ => congrArg₂ (HMul.hMul (α := EReal)) (ValueIdx.shapeCast_1ab_ab_apply _ _ n d) ?_
  exact ValueIdx.slice2_axis1_apply o q hs i d _ rfl

end Values

end Cert.MergeIdeal.Rows
-- ==== Proof.MergeOut.lean ====
/- WHAT A GRID POINT OF THE MERGE WRITES: the four stored blocks at an index, from blocks that hold 256 tokens. -/
module

public import proofs.«01_k».proof.Proof.MergeBlock
public import Idealize.ShloMosaic.Lib.Pipeline.ValueKit.Tiles

@[expose] public section

set_option maxRecDepth 16384

noncomputable section

namespace Cert.MergeIdeal.Rows

open Idealize.ShloMosaic Idealize.SL.Sem
open Cert.MergeIdeal Cert.MergeIdeal.Gen
open Cert.Merging

/-- A load of a rectangle of a matrix. -/
theorem ld2 {e : EltTy} {n m p q o0 o1 : Nat} (x : (⟨2, ![n, m]⟩ : Shape).Idx → Elt Ideal e)
    (inb : ∀ a, (![o0, o1] : Fin 2 → Nat) a + (![p, q] : Fin 2 → Nat) a ≤ (⟨2, ![n, m]⟩ : Shape).size a) (i : Fin p) (j : Fin q) (i' : Fin n) (j' : Fin m) (hi : i'.val = o0 + i.val)
    (hj : j'.val = o1 + j.val) :
    View.ld (Val := Elt Ideal) (e' := e) x (Rect.unit (s := ⟨2, ![n, m]⟩) ![o0, o1] ![p, q] inb) (ix2 i j) = x (ix2 i' j') :=
  View.ld_unit_apply_of (Val := Elt Ideal) (e := e) x _ _ inb (ix2 i j) (ix2 i' j') (fun a => match a with
    | ⟨0, _⟩ => hi
    | ⟨1, _⟩ => hj)

section Point

variable (W : Weights) (R : Fin 256 → Row)
  (x0 : Vec Ideal S256x1024 .f32) (x1 x2 : Vec Ideal S256x512 .bf16) (x3 : Vec Ideal S256x2048 .bf16)
  (x4 x5 : Vec Ideal S512x1024 .bf16) (x6 : Vec Ideal S1024x1024 .bf16) (x7 : Vec Ideal S1x1024 .f32)
  (x8 : Vec Ideal S1024x2048 .bf16) (x9 x10 : Vec Ideal S8x128x128 .bf16)

/-- The blocks hold the tokens `R` and the weights `W`. -/
structure Blocks : Prop where
  x : ∀ i k, x0 (ix2 i k) = (R i).x k
  ya : ∀ i j, x1 (ix2 i j) = (R i).ya j
  yb : ∀ i j, x2 (ix2 i j) = (R i).yb j
  sa : ∀ (i : Fin 256) (k : Fin 1024), x3 (ix2 i ⟨k.val, by omega⟩) = (R i).sa k
  sb : ∀ (i : Fin 256) (k : Fin 1024), x3 (ix2 i ⟨1024 + k.val, by omega⟩) = (R i).sb k
  wba : ∀ j k, x4 (ix2 j k) = W.wba j k
  wbb : ∀ j k, x5 (ix2 j k) = W.wbb j k
  wout : ∀ j k, x6 (ix2 j k) = W.wout j k
  g : ∀ k, x7 (ix2 0 k) = W.g k
  wpq : ∀ k o, x8 (ix2 k o) = W.wpq k o

variable {W R x0 x1 x2 x3 x4 x5 x6 x7 x8} (B : Blocks W R x0 x1 x2 x3 x4 x5 x6 x7 x8)
include B

theorem rows_eq (i : Fin 256) :
    rowOf (View.ld x3 r0_0) (View.ld x1 r0_1) (View.ld x3 r0_3) (View.ld x2 r0_1) (View.ld x0 r0_4) i = R i :=
  Row.ext
    (funext fun k => (ld2 (e := .f32) x0 _ i k i k (by omega) (by omega)).trans (B.x i k))
    (funext fun j => (ld2 (e := .bf16) x1 _ i j i j (by omega) (by omega)).trans (B.ya i j))
    (funext fun j => (ld2 (e := .bf16) x2 _ i j i j (by omega) (by omega)).trans (B.yb i j))
    (funext fun k => (ld2 (e := .bf16) x3 _ i k i ⟨k.val, by omega⟩ (by omega) (by show k.val = 0 + k.val; omega)).trans (B.sa i k))
    (funext fun k => (ld2 (e := .bf16) x3 _ i k i ⟨1024 + k.val, by omega⟩ (by omega) rfl).trans (B.sb i k))

theorem weights_eq :
    weightsOf (View.ld x4 r0_2) (View.ld x5 r0_2) (View.ld x6 r0_5) (View.ld x7 r0_6) (View.ld x8 r0_7) = W :=
  Weights.ext
    (funext fun j => funext fun k => (ld2 (e := .bf16) x4 _ j k j k (by omega) (by omega)).trans (B.wba j k))
    (funext fun j => funext fun k => (ld2 (e := .bf16) x5 _ j k j k (by omega) (by omega)).trans (B.wbb j k))
    (funext fun j => funext fun k => (ld2 (e := .bf16) x6 _ j k j k (by omega) (by omega)).trans (B.wout j k))
    (funext fun k => (ld2 (e := .f32) x7 _ 0 k 0 k rfl (by omega)).trans (B.g k))
    (funext fun k => funext fun o => (ld2 (e := .bf16) x8 _ k o k o (by omega) (by omega)).trans (B.wpq k o))

/-- The residual rows. -/
theorem out11_apply (i : Fin 256) (k : Fin 1024) :
    out0_11 x0 x1 x2 x3 x4 x5 x6 x7 x8 x9 x10 (ix2 i k) = resid W (R i) k := by
  unfold out0_11
  refine (congrFun (View.canon_unit_zero (S := S256x1024) (off := ![0, 0]) (by funext a; match a with | 0 => rfl | 1 => rfl)
    _ _) (ix2 i k)).trans ?_
  refine (pay3_apply _ _ _ _ _ _ _ _ (View.ld x7 r0_6) (View.ld x8 r0_7) i k).trans ?_
  rw [rows_eq B i, weights_eq B]

/-- The normed rows. -/
theorem out12_apply (i : Fin 256) (k : Fin 1024) :
    out0_12 x0 x1 x2 x3 x4 x5 x6 x7 x8 x9 x10 (ix2 i k) = normed W (R i) k := by
  unfold out0_12 k0_pay27 k0_pay28 k0_pay29 k0_pay30
  refine (congrFun (View.canon_unit_zero (S := S256x1024) (off := ![0, 0]) (by funext a; match a with | 0 => rfl | 1 => rfl)
    _ _) (ix2 i k)).trans ?_
  refine (pay7_apply _ _ _ _ _ _ _ _ (View.ld x7 r0_6) (View.ld x8 r0_7) i k).trans ?_
  rw [rows_eq B i, weights_eq B]

/-- The rows' queries. -/
theorem queries_held (i : Fin 256) (o : Fin 2048) :
    k0_pay31 x0 x1 x2 x3 x4 x5 x6 x7 x8 x9 x10 (ix2 i o) = query W (R i) o := by
  unfold k0_pay31 k0_pay27 k0_pay28 k0_pay29 k0_pay30
  refine (pay8_apply _ _ _ _ _ _ _ _ (View.ld x7 r0_6) (View.ld x8 r0_7) i o).trans ?_
  rw [rows_eq B i, weights_eq B]

omit B in
variable (W R) in
/-- Head by head, the scores against the keys `X`, of the query features from `256 h + off` on. -/
def scoresOf (X : Vec Ideal S8x128x128 .bf16) (off : Nat) (hoff : off ≤ 128) : Vec Ideal S8x128x256 .f32 := fun y =>
  score W (R (y 2 : Fin 256)) (fun d => X (ix3 (y 0 : Fin 8) (y 1 : Fin 128) d)) (256 * (y 0).val + off)
    (by have h : (y 0).val < 8 := (y 0).isLt; omega)

omit B in
/-- One head's stored scores are those. -/
theorem piece_apply (q : FVec Ideal S256x2048 .bf16) (hq : ∀ i o, q (ix2 i o) = query W (R i) o)
    (X : Vec Ideal S8x128x128 .bf16) (off : Nat) (hoff : off ≤ 128) (h : Fin 8) (o : Nat) (ho : o = 256 * h.val + off)
    (hs : S256x2048.Slices ![0, o] S256x128)
    (inbl : ∀ a, (![h.val, 0, 0] : Fin 3 → Nat) a + S1x128x128.size a ≤ S8x128x128.size a)
    (inbs : ∀ a, (![h.val, 0, 0] : Fin 3 → Nat) a + S1x128x256.size a ≤ S8x128x256.size a) (x : S1x128x256.Idx) :
    shapeCast S1x128x256
      (matmul dot_S128x128_S256x128_S128x256_1_1_0_0_n_n none
        (shapeCast S128x128 (View.ld (Val := Elt Ideal) (e' := .bf16) X (Rect.unit (s := S8x128x128) ![h.val, 0, 0] S1x128x128.size inbl))
          shapeCasts_S1x128x128_S128x128 : FVec Ideal S128x128 .bf16)
        (extractStridedSlice S256x128 ![0, o] q hs) (constant S128x256 .f32 0x00000000#32))
      shapeCasts_S128x256_S1x128x256 x
      = scoresOf W R X off hoff ((Rect.unit (s := S8x128x256) ![h.val, 0, 0] S1x128x256.size inbs).idx x) := by
  obtain ⟨n, i, rfl⟩ : ∃ (n : Fin 128) (i : Fin 256), x = (ix3 (0 : Fin 1) n i : S1x128x256.Idx) :=
    ⟨x 1, x 2, funext fun a => match a with
      | ⟨0, _⟩ => Subsingleton.elim (α := Fin 1) _ _
      | ⟨1, _⟩ => rfl
      | ⟨2, _⟩ => rfl⟩
  have hl := h.isLt
  refine (score_apply q _ o (by omega) hs n i).trans ?_
  have he : (Rect.unit (s := S8x128x256) ![h.val, 0, 0] S1x128x256.size inbs).idx (ix3 (0 : Fin 1) n i) = (ix3 h n i : S8x128x256.Idx) := by
    funext a
    apply Fin.ext
    match a with
    | ⟨0, _⟩ => show h.val + 1 * 0 = h.val; omega
    | ⟨1, _⟩ => show 0 + 1 * n.val = n.val; omega
    | ⟨2, _⟩ => show 0 + 1 * i.val = i.val; omega
  rw [he]
  subst ho
  show _ = score W (R i) (fun d => X (ix3 h n d)) (256 * h.val + off) (by omega)
  unfold score
  refine Finset.sum_congr rfl fun d _ => congrArg₂ (HMul.hMul (α := EReal)) ?_ (hq i _)
  exact View.ld_unit_apply_of (Val := Elt Ideal) (e := .bf16) X _ _ inbl (ix3 0 n d) (ix3 h n d) (fun a => match a with
    | ⟨0, _⟩ => by show h.val = h.val + 0; omega
    | ⟨1, _⟩ => by show n.val = 0 + n.val; omega
    | ⟨2, _⟩ => by show d.val = 0 + d.val; omega)

/-- The scores against the first set of keys. -/
theorem out13_apply (y : S8x128x256.Idx) :
    out0_13 x0 x1 x2 x3 x4 x5 x6 x7 x8 x9 x10 y = scoresOf W R x9 0 (by omega) y := by
  have hq := queries_held x9 x10 B
  unfold out0_13
  refine View.canon_apply_of_pieces (scoresOf W R x9 0 (by omega)) _ ?_ y (cover0_13 _ _ _ _ _ _ _ _ y)
  intro pc hpc
  rcases List.mem_cons.mp hpc with rfl | hpc
  · exact piece_apply _ hq x9 0 (by omega) 7 1792 rfl _ _ inb_S8x128x256_S1x128x256_7_0_0
  rcases List.mem_cons.mp hpc with rfl | hpc
  · exact piece_apply _ hq x9 0 (by omega) 6 1536 rfl _ _ inb_S8x128x256_S1x128x256_6_0_0
  rcases List.mem_cons.mp hpc with rfl | hpc
  · exact piece_apply _ hq x9 0 (by omega) 5 1280 rfl _ _ inb_S8x128x256_S1x128x256_5_0_0
  rcases List.mem_cons.mp hpc with rfl | hpc
  · exact piece_apply _ hq x9 0 (by omega) 4 1024 rfl _ _ inb_S8x128x256_S1x128x256_4_0_0
  rcases List.mem_cons.mp hpc with rfl | hpc
  · exact piece_apply _ hq x9 0 (by omega) 3 768 rfl _ _ inb_S8x128x256_S1x128x256_3_0_0
  rcases List.mem_cons.mp hpc with rfl | hpc
  · exact piece_apply _ hq x9 0 (by omega) 2 512 rfl _ _ inb_S8x128x256_S1x128x256_2_0_0
  rcases List.mem_cons.mp hpc with rfl | hpc
  · exact piece_apply _ hq x9 0 (by omega) 1 256 rfl _ _ inb_S8x128x256_S1x128x256_1_0_0
  rcases List.mem_cons.mp hpc with rfl | hpc
  · exact piece_apply _ hq x9 0 (by omega) 0 0 rfl _ _ inb_S8x128x256_S1x128x256_0_0_0
  nomatch hpc

/-- The scores against the second set. -/
theorem out14_apply (y : S8x128x256.Idx) :
    out0_14 x0 x1 x2 x3 x4 x5 x6 x7 x8 x9 x10 y = scoresOf W R x10 128 (by omega) y := by
  have hq := queries_held x9 x10 B
  unfold out0_14
  refine View.canon_apply_of_pieces (scoresOf W R x10 128 (by omega)) _ ?_ y (cover0_14 _ _ _ _ _ _ _ _ y)
  intro pc hpc
  rcases List.mem_cons.mp hpc with rfl | hpc
  · exact piece_apply _ hq x10 128 (by omega) 7 1920 rfl _ _ inb_S8x128x256_S1x128x256_7_0_0
  rcases List.mem_cons.mp hpc with rfl | hpc
  · exact piece_apply _ hq x10 128 (by omega) 6 1664 rfl _ _ inb_S8x128x256_S1x128x256_6_0_0
  rcases List.mem_cons.mp hpc with rfl | hpc
  · exact piece_apply _ hq x10 128 (by omega) 5 1408 rfl _ _ inb_S8x128x256_S1x128x256_5_0_0
  rcases List.mem_cons.mp hpc with rfl | hpc
  · exact piece_apply _ hq x10 128 (by omega) 4 1152 rfl _ _ inb_S8x128x256_S1x128x256_4_0_0
  rcases List.mem_cons.mp hpc with rfl | hpc
  · exact piece_apply _ hq x10 128 (by omega) 3 896 rfl _ _ inb_S8x128x256_S1x128x256_3_0_0
  rcases List.mem_cons.mp hpc with rfl | hpc
  · exact piece_apply _ hq x10 128 (by omega) 2 640 rfl _ _ inb_S8x128x256_S1x128x256_2_0_0
  rcases List.mem_cons.mp hpc with rfl | hpc
  · exact piece_apply _ hq x10 128 (by omega) 1 384 rfl _ _ inb_S8x128x256_S1x128x256_1_0_0
  rcases List.mem_cons.mp hpc with rfl | hpc
  · exact piece_apply _ hq x10 128 (by omega) 0 128 rfl _ _ inb_S8x128x256_S1x128x256_0_0_0
  nomatch hpc

end Point

end Cert.MergeIdeal.Rows
-- ==== Proof.MergeHost.lean ====
/- WHAT THE HOST CODE HANDS THE MERGE, and a block of it: the tokens one sequence after the other, the two gates' values
   side by side, the weights as they come. -/
module

public import proofs.«01_k».proof.Proof.MergeOut
public import proofs.«01_k».proof.Proof.Gen.MergeIdeal.Value
public import Idealize.ShloMosaic.Lib.Pointwise

@[expose] public section

set_option maxRecDepth 16384

noncomputable section

namespace Cert.MergeIdeal.Rows

open Idealize.ShloMosaic Idealize.ShloMosaic.TcCoe Idealize.SL.Sem
open Cert.MergeIdeal Cert.MergeIdeal.Gen
open Cert.Merging

variable {F : FTy → Type} [FloatOps F]

/-- The residual rows as the call takes them. -/
def hostX (x : FVec F S8x4096x1024 .f32) : FVec F S32768x1024 .f32 := shapeCast S32768x1024 x shapeCasts_S8x4096x1024_S32768x1024

/-- A branch's outputs as the call takes them. -/
def hostY (y : FVec F S8x4096x512 .f32) : FVec F S32768x512 .bf16 :=
  truncf .bf16 (shapeCast S32768x512 y shapeCasts_S8x4096x512_S32768x512) bitsLt_bf16_f32

/-- The logistic function of the two gates side by side. -/
def hostGates (ga gb : FVec F S8x4096x1024 .f32) : FVec F S8x4096x2048 .f32 :=
  Host.divf (broadcastInDim S8x4096x2048 ![] bcast_S_S8x4096x2048 (constant S_ .f32 0x3F800000#32))
    (addf (broadcastInDim S8x4096x2048 ![] bcast_S_S8x4096x2048 (constant S_ .f32 0x3F800000#32))
      (Host.exp (Host.negf (concatenate S8x4096x2048 2 [⟨S8x4096x1024, ga⟩, ⟨S8x4096x1024, gb⟩]
        concatenates_S8x4096x1024_S8x4096x1024_S8x4096x2048_d2))))

/-- The same, as the call takes it. -/
def hostS (ga gb : FVec F S8x4096x1024 .f32) : FVec F S32768x2048 .bf16 :=
  truncf .bf16 (shapeCast S32768x2048 (hostGates ga gb) shapeCasts_S8x4096x2048_S32768x2048) bitsLt_bf16_f32

/-- The norm's scale as a row. -/
def hostG (g : FVec F S1024 .f32) : FVec F S1x1024 .f32 := shapeCast S1x1024 g shapeCasts_S1024_S1x1024

section Arrays

variable (m : (ℓ : Loc nD τ sig) → Buf (Elt F) ℓ) (c : Dev nD)

theorem V_x : V m c main_v0 = hostX (m ((c.tc : Thread nD τ).loc main_arg0)) := by
  simp only [V, hostOps0]
  after_results_simp
  rfl

theorem V_ya : V m c main_v2 = hostY (m ((c.tc : Thread nD τ).loc main_arg1)) := by
  simp only [V, hostOps0]
  after_results_simp
  rfl

theorem V_yb : V m c main_v4 = hostY (m ((c.tc : Thread nD τ).loc main_arg2)) := by
  simp only [V, hostOps0]
  after_results_simp
  rfl

theorem V_s : V m c main_v13 = hostS (m ((c.tc : Thread nD τ).loc main_arg3)) (m ((c.tc : Thread nD τ).loc main_arg4)) := by
  simp only [V, hostOps0]
  after_results_simp
  rfl

theorem V_wba : V m c main_v14 = truncf .bf16 (m ((c.tc : Thread nD τ).loc main_arg5)) bitsLt_bf16_f32 := by
  simp only [V, hostOps0]
  after_results_simp

theorem V_wbb : V m c main_v15 = truncf .bf16 (m ((c.tc : Thread nD τ).loc main_arg6)) bitsLt_bf16_f32 := by
  simp only [V, hostOps0]
  after_results_simp

theorem V_wout : V m c main_v16 = truncf .bf16 (m ((c.tc : Thread nD τ).loc main_arg7)) bitsLt_bf16_f32 := by
  simp only [V, hostOps0]
  after_results_simp

theorem V_g : V m c main_v20 = hostG (m ((c.tc : Thread nD τ).loc main_arg8)) := by
  simp only [V, hostOps0]
  after_results_simp
  rfl

theorem V_wpq : V m c main_v17 = truncf .bf16 (m ((c.tc : Thread nD τ).loc main_arg9)) bitsLt_bf16_f32 := by
  simp only [V, hostOps0]
  after_results_simp

theorem V_sk1 : V m c main_v18 = truncf .bf16 (m ((c.tc : Thread nD τ).loc main_arg10)) bitsLt_bf16_f32 := by
  simp only [V, hostOps0]
  after_results_simp

theorem V_sk2 : V m c main_v19 = truncf .bf16 (m ((c.tc : Thread nD τ).loc main_arg11)) bitsLt_bf16_f32 := by
  simp only [V, hostOps0]
  after_results_simp

end Arrays

/-! ### The blocks: grid point `t` has the 256 tokens from `256 t` on -/

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)
theorem index8 : ∀ t : Fin cfg0.N, win0_8.index t 0 = 0 ∧ win0_8.index t 1 = 0 :=
  (by decide +kernel : ∀ t : Fin grid0.N, win0_8.index t 0 = 0 ∧ win0_8.index t 1 = 0)
theorem index9 : ∀ t : Fin cfg0.N, (win0_9.index t 0 = 0 ∧ win0_9.index t 1 = 0) ∧ win0_9.index t 2 = 0 :=
  (by decide +kernel : ∀ t : Fin grid0.N, (win0_9.index t 0 = 0 ∧ win0_9.index t 1 = 0) ∧ win0_9.index t 2 = 0)
theorem index10 : ∀ t : Fin cfg0.N, (win0_10.index t 0 = 0 ∧ win0_10.index t 1 = 0) ∧ win0_10.index t 2 = 0 :=
  (by decide +kernel : ∀ t : Fin grid0.N, (win0_10.index t 0 = 0 ∧ win0_10.index t 1 = 0) ∧ win0_10.index t 2 = 0)
theorem index11 : ∀ t : Fin cfg0.N, win0_11.index t 0 = t.val ∧ win0_11.index t 1 = 0 :=
  (by decide +kernel : ∀ t : Fin grid0.N, win0_11.index t 0 = t.val ∧ win0_11.index t 1 = 0)
theorem index12 : ∀ t : Fin cfg0.N, win0_12.index t 0 = t.val ∧ win0_12.index t 1 = 0 :=
  (by decide +kernel : ∀ t : Fin grid0.N, win0_12.index t 0 = t.val ∧ win0_12.index t 1 = 0)
theorem index13 : ∀ t : Fin cfg0.N, (win0_13.index t 0 = 0 ∧ win0_13.index t 1 = 0) ∧ win0_13.index t 2 = t.val :=
  (by decide +kernel : ∀ t : Fin grid0.N, (win0_13.index t 0 = 0 ∧ win0_13.index t 1 = 0) ∧ win0_13.index t 2 = t.val)
theorem index14 : ∀ t : Fin cfg0.N, (win0_14.index t 0 = 0 ∧ win0_14.index t 1 = 0) ∧ win0_14.index t 2 = t.val :=
  (by decide +kernel : ∀ t : Fin grid0.N, (win0_14.index t 0 = 0 ∧ win0_14.index t 1 = 0) ∧ win0_14.index t 2 = t.val)

/-- The number of the token in row `i` of grid point `t`. -/
def tok (t : Fin cfg0.N) (i : Fin 256) : Fin 32768 := ⟨t.val * 256 + i.val, by have : t.val < 128 := t.isLt; omega⟩

section Blocks

variable (m : (ℓ : Loc nD τ sig) → Buf (Elt F) ℓ) (c : Dev nD) (t : Fin cfg0.N)

theorem block0 (i : Fin 256) (j : Fin 1024) :
    (iblk m c 0 t : Vec F S256x1024 .f32) (ix2 i j) = (hostX (m ((c.tc : Thread nD τ).loc main_arg0))) (ix2 (tok t i) j) := by
  rw [← V_x]
  have hi := index0 t
  unfold iblk
  rw [View.read_apply]
  show V m c main_v0 _ = V m c main_v0 _
  congr 1
  funext a
  apply Fin.ext
  match a with
  | ⟨0, _⟩ => show win0_0.index t 0 * 256 + 1 * i.val = t.val * 256 + i.val; rw [hi.1]; omega
  | ⟨1, _⟩ => show win0_0.index t 1 * 1024 + 1 * j.val = j.val; rw [hi.2]; omega

theorem block1 (i : Fin 256) (j : Fin 512) :
    (iblk m c 1 t : Vec F S256x512 .bf16) (ix2 i j) = (hostY (m ((c.tc : Thread nD τ).loc main_arg1))) (ix2 (tok t i) j) := by
  rw [← V_ya]
  have hi := index1 t
  unfold iblk
  rw [View.read_apply]
  show V m c main_v2 _ = V m c main_v2 _
  congr 1
  funext a
  apply Fin.ext
  match a with
  | ⟨0, _⟩ => show win0_1.index t 0 * 256 + 1 * i.val = t.val * 256 + i.val; rw [hi.1]; omega
  | ⟨1, _⟩ => show win0_1.index t 1 * 512 + 1 * j.val = j.val; rw [hi.2]; omega

theorem block2 (i : Fin 256) (j : Fin 512) :
    (iblk m c 2 t : Vec F S256x512 .bf16) (ix2 i j) = (hostY (m ((c.tc : Thread nD τ).loc main_arg2))) (ix2 (tok t i) j) := by
  rw [← V_yb]
  have hi := index2 t
  unfold iblk
  rw [View.read_apply]
  show V m c main_v4 _ = V m c main_v4 _
  congr 1
  funext a
  apply Fin.ext
  match a with
  | ⟨0, _⟩ => show win0_2.index t 0 * 256 + 1 * i.val = t.val * 256 + i.val; rw [hi.1]; omega
  | ⟨1, _⟩ => show win0_2.index t 1 * 512 + 1 * j.val = j.val; rw [hi.2]; omega

theorem block3 (i : Fin 256) (j : Fin 2048) :
    (iblk m c 3 t : Vec F S256x2048 .bf16) (ix2 i j) = (hostS (m ((c.tc : Thread nD τ).loc main_arg3)) (m ((c.tc : Thread nD τ).loc main_arg4))) (ix2 (tok t i) j) := by
  rw [← V_s]
  have hi := index3 t
  unfold iblk
  rw [View.read_apply]
  show V m c main_v13 _ = V m c main_v13 _
  congr 1
  funext a
  apply Fin.ext
  match a with
  | ⟨0, _⟩ => show win0_3.index t 0 * 256 + 1 * i.val = t.val * 256 + i.val; rw [hi.1]; omega
  | ⟨1, _⟩ => show win0_3.index t 1 * 2048 + 1 * j.val = j.val; rw [hi.2]; omega

theorem block4 (i : Fin 512) (j : Fin 1024) :
    (iblk m c 4 t : Vec F S512x1024 .bf16) (ix2 i j) = (truncf .bf16 (m ((c.tc : Thread nD τ).loc main_arg5)) bitsLt_bf16_f32) (ix2 i j) := by
  rw [← V_wba]
  have hi := index4 t
  unfold iblk
  rw [View.read_apply]
  show V m c main_v14 _ = V m c main_v14 _
  congr 1
  funext a
  apply Fin.ext
  match a with
  | ⟨0, _⟩ => show win0_4.index t 0 * 512 + 1 * i.val = i.val; rw [hi.1]; omega
  | ⟨1, _⟩ => show win0_4.index t 1 * 1024 + 1 * j.val = j.val; rw [hi.2]; omega

theorem block5 (i : Fin 512) (j : Fin 1024) :
    (iblk m c 5 t : Vec F S512x1024 .bf16) (ix2 i j) = (truncf .bf16 (m ((c.tc : Thread nD τ).loc main_arg6)) bitsLt_bf16_f32) (ix2 i j) := by
  rw [← V_wbb]
  have hi := index5 t
  unfold iblk
  rw [View.read_apply]
  show V m c main_v15 _ = V m c main_v15 _
  congr 1
  funext a
  apply Fin.ext
  match a with
  | ⟨0, _⟩ => show win0_5.index t 0 * 512 + 1 * i.val = i.val; rw [hi.1]; omega
  | ⟨1, _⟩ => show win0_5.index t 1 * 1024 + 1 * j.val = j.val; rw [hi.2]; omega

theorem block6 (i : Fin 1024) (j : Fin 1024) :
    (iblk m c 6 t : Vec F S1024x1024 .bf16) (ix2 i j) = (truncf .bf16 (m ((c.tc : Thread nD τ).loc main_arg7)) bitsLt_bf16_f32) (ix2 i j) := by
  rw [← V_wout]
  have hi := index6 t
  unfold iblk
  rw [View.read_apply]
  show V m c main_v16 _ = V m c main_v16 _
  congr 1
  funext a
  apply Fin.ext
  match a with
  | ⟨0, _⟩ => show win0_6.index t 0 * 1024 + 1 * i.val = i.val; rw [hi.1]; omega
  | ⟨1, _⟩ => show win0_6.index t 1 * 1024 + 1 * j.val = j.val; rw [hi.2]; omega

theorem block7 (i : Fin 1) (j : Fin 1024) :
    (iblk m c 7 t : Vec F S1x1024 .f32) (ix2 i j) = (hostG (m ((c.tc : Thread nD τ).loc main_arg8))) (ix2 i j) := by
  rw [← V_g]
  have hi := index7 t
  unfold iblk
  rw [View.read_apply]
  show V m c main_v20 _ = V m c main_v20 _
  congr 1
  funext a
  apply Fin.ext
  match a with
  | ⟨0, _⟩ => show win0_7.index t 0 * 1 + 1 * i.val = i.val; rw [hi.1]; omega
  | ⟨1, _⟩ => show win0_7.index t 1 * 1024 + 1 * j.val = j.val; rw [hi.2]; omega

theorem block8 (i : Fin 1024) (j : Fin 2048) :
    (iblk m c 8 t : Vec F S1024x2048 .bf16) (ix2 i j) = (truncf .bf16 (m ((c.tc : Thread nD τ).loc main_arg9)) bitsLt_bf16_f32) (ix2 i j) := by
  rw [← V_wpq]
  have hi := index8 t
  unfold iblk
  rw [View.read_apply]
  show V m c main_v17 _ = V m c main_v17 _
  congr 1
  funext a
  apply Fin.ext
  match a with
  | ⟨0, _⟩ => show win0_8.index t 0 * 1024 + 1 * i.val = i.val; rw [hi.1]; omega
  | ⟨1, _⟩ => show win0_8.index t 1 * 2048 + 1 * j.val = j.val; rw [hi.2]; omega

theorem block9 : (iblk m c 9 t : Vec F S8x128x128 .bf16) = truncf .bf16 (m ((c.tc : Thread nD τ).loc main_arg10)) bitsLt_bf16_f32 := by
  rw [← V_sk1]
  have hi := index9 t
  funext y
  unfold iblk
  rw [View.read_apply]
  show V m c main_v18 _ = V m c main_v18 _
  congr 1
  funext a
  apply Fin.ext
  match a with
  | ⟨0, _⟩ => show win0_9.index t 0 * 8 + 1 * (y 0).val = (y 0).val; rw [hi.1.1]; omega
  | ⟨1, _⟩ => show win0_9.index t 1 * 128 + 1 * (y 1).val = (y 1).val; rw [hi.1.2]; omega
  | ⟨2, _⟩ => show win0_9.index t 2 * 128 + 1 * (y 2).val = (y 2).val; rw [hi.2]; omega

theorem block10 : (iblk m c 10 t : Vec F S8x128x128 .bf16) = truncf .bf16 (m ((c.tc : Thread nD τ).loc main_arg11)) bitsLt_bf16_f32 := by
  rw [← V_sk2]
  have hi := index10 t
  funext y
  unfold iblk
  rw [View.read_apply]
  show V m c main_v19 _ = V m c main_v19 _
  congr 1
  funext a
  apply Fin.ext
  match a with
  | ⟨0, _⟩ => show win0_10.index t 0 * 8 + 1 * (y 0).val = (y 0).val; rw [hi.1.1]; omega
  | ⟨1, _⟩ => show win0_10.index t 1 * 128 + 1 * (y 1).val = (y 1).val; rw [hi.1.2]; omega
  | ⟨2, _⟩ => show win0_10.index t 2 * 128 + 1 * (y 2).val = (y 2).val; rw [hi.2]; omega

end Blocks

/-! ### The host arrays at an index -/

theorem hostX_apply (x : FVec Ideal S8x4096x1024 .f32) (r : Fin 32768) (k : Fin 1024) :
    hostX x (ix2 r k) = x (ix3 (seqAt r) (placeAt r) k) := flat_apply x _ r k

theorem hostY_apply (y : FVec Ideal S8x4096x512 .f32) (r : Fin 32768) (k : Fin 512) :
    hostY y (ix2 r k) = y (ix3 (seqAt r) (placeAt r) k) := flat_apply y _ r k

theorem hostS_left (ga gb : FVec Ideal S8x4096x1024 .f32) (r : Fin 32768) (k : Fin 1024) :
    hostS ga gb (ix2 r ⟨k.val, by omega⟩) = gate (ga (ix3 (seqAt r) (placeAt r) k)) := by
  refine (flat_apply (hostGates ga gb) _ r ⟨k.val, by omega⟩).trans ?_
  unfold hostGates
  pointwise
  rfl

theorem hostS_right (ga gb : FVec Ideal S8x4096x1024 .f32) (r : Fin 32768) (k : Fin 1024) :
    hostS ga gb (ix2 r ⟨1024 + k.val, by omega⟩) = gate (gb (ix3 (seqAt r) (placeAt r) k)) := by
  refine (flat_apply (hostGates ga gb) _ r ⟨1024 + k.val, by omega⟩).trans ?_
  unfold hostGates
  pointwise
  rfl

theorem hostG_apply (g : FVec Ideal S1024 .f32) (k : Fin 1024) : hostG g (ix2 0 k) = g (ix1 k) :=
  ValueIdx.shapeCast_a_1a_apply g _ 0 k

end Cert.MergeIdeal.Rows
-- ==== Proof.MergeArray.lean ====
/- THE MERGE'S FOUR RESULT ARRAYS at an index: token number `r` is in the block of one grid point. -/
module

public import proofs.«01_k».proof.Proof.MergeHost

@[expose] public section

set_option maxRecDepth 16384

noncomputable section

namespace Cert.MergeIdeal.Rows

open Idealize.ShloMosaic Idealize.ShloMosaic.TcCoe Idealize.SL.Sem
open Cert.MergeIdeal Cert.MergeIdeal.Gen
open Cert.Merging

variable (m : (ℓ : Loc nD τ sig) → Buf (Elt Ideal) ℓ) (c : Dev nD)

/-- Device `c`'s token number `r`, -/
def rowAt (r : Fin 32768) : Row :=
  token (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (seqAt r) (placeAt r)

/-- and its weights. -/
def weightsAt : Weights :=
  weights (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9))

/-- The blocks of a grid point hold its tokens and the weights. -/
theorem blocks_at (t : Fin cfg0.N) :
    Blocks (weightsAt m c) (fun i => rowAt m c (tok t i)) (iblk m c 0 t) (iblk m c 1 t) (iblk m c 2 t) (iblk m c 3 t)
      (iblk m c 4 t) (iblk m c 5 t) (iblk m c 6 t) (iblk m c 7 t) (iblk m c 8 t) where
  x i k := (block0 m c t i k).trans (hostX_apply _ _ k)
  ya i j := (block1 m c t i j).trans (hostY_apply _ _ j)
  yb i j := (block2 m c t i j).trans (hostY_apply _ _ j)
  sa i k := (block3 m c t i _).trans (hostS_left _ _ _ k)
  sb i k := (block3 m c t i _).trans (hostS_right _ _ _ k)
  wba j k := block4 m c t j k
  wbb j k := block5 m c t j k
  wout j k := block6 m c t j k
  g k := (block7 m c t 0 k).trans (hostG_apply _ k)
  wpq k o := block8 m c t k o

/-- The grid point that has token number `r`, -/
def pointOf (r : Fin 32768) : Fin cfg0.N := ⟨r.val / 256, by show _ < 128; omega⟩
/-- and the token's row in it. -/
def placeIn (r : Fin 32768) : Fin 256 := ⟨r.val % 256, by omega⟩

theorem tok_pointOf (r : Fin 32768) : tok (pointOf r) (placeIn r) = r :=
  Fin.ext (by show r.val / 256 * 256 + r.val % 256 = r.val; omega)

/-- The residual rows. -/
theorem array11_apply (r : Fin 32768) (k : Fin 1024) :
    (dats m 0 c).arrAt 11 cfg0.N (ix2 r k) = (resid (weightsAt m c) (rowAt m c r) k : EReal) := by
  have hi := index11 (pointOf r)
  have hb := congrFun (Value.blocks11 m c (pointOf r) (flush0_11 _)) (ix2 (placeIn r) k)
  rw [View.read_apply] at hb
  have he : ((cfg0.win 11).blk (pointOf r)).view.emb (ix2 (placeIn r) k) = (ix2 r k : S32768x1024.Idx) := by
    funext a
    apply Fin.ext
    match a with
    | ⟨0, _⟩ => show win0_11.index (pointOf r) 0 * 256 + 1 * (r.val % 256) = r.val; rw [hi.1]; show r.val / 256 * 256 + 1 * (r.val % 256) = r.val; omega
    | ⟨1, _⟩ => show win0_11.index (pointOf r) 1 * 1024 + 1 * k.val = k.val; rw [hi.2]; omega
  rw [he] at hb
  refine Eq.trans hb ?_
  rw [Value.flushed11]
  refine Eq.trans (out11_apply _ _ (blocks_at m c (pointOf r)) (placeIn r) k) ?_
  show resid (weightsAt m c) (rowAt m c (tok (pointOf r) (placeIn r))) k = _
  rw [tok_pointOf]

/-- The normed rows. -/
theorem array12_apply (r : Fin 32768) (k : Fin 1024) :
    (dats m 0 c).arrAt 12 cfg0.N (ix2 r k) = (normed (weightsAt m c) (rowAt m c r) k : EReal) := by
  have hi := index12 (pointOf r)
  have hb := congrFun (Value.blocks12 m c (pointOf r) (flush0_12 _)) (ix2 (placeIn r) k)
  rw [View.read_apply] at hb
  have he : ((cfg0.win 12).blk (pointOf r)).view.emb (ix2 (placeIn r) k) = (ix2 r k : S32768x1024.Idx) := by
    funext a
    apply Fin.ext
    match a with
    | ⟨0, _⟩ => show win0_12.index (pointOf r) 0 * 256 + 1 * (r.val % 256) = r.val; rw [hi.1]; show r.val / 256 * 256 + 1 * (r.val % 256) = r.val; omega
    | ⟨1, _⟩ => show win0_12.index (pointOf r) 1 * 1024 + 1 * k.val = k.val; rw [hi.2]; omega
  rw [he] at hb
  refine Eq.trans hb ?_
  rw [Value.flushed12]
  refine Eq.trans (out12_apply _ _ (blocks_at m c (pointOf r)) (placeIn r) k) ?_
  show normed (weightsAt m c) (rowAt m c (tok (pointOf r) (placeIn r))) k = _
  rw [tok_pointOf]

/-- The scores against the first set of keys. -/
theorem array13_apply (h : Fin 8) (n : Fin 128) (r : Fin 32768) :
    (dats m 0 c).arrAt 13 cfg0.N (ix3 h n r)
      = (score (weightsAt m c) (rowAt m c r) (fun d => m ((c.tc : Thread nD τ).loc main_arg10) (ix3 h n d)) (256 * h.val + 0)
          (by omega) : EReal) := by
  have hi := index13 (pointOf r)
  have hb := congrFun (Value.blocks13 m c (pointOf r) (flush0_13 _)) (ix3 h n (placeIn r))
  rw [View.read_apply] at hb
  have he : ((cfg0.win 13).blk (pointOf r)).view.emb (ix3 h n (placeIn r)) = (ix3 h n r : S8x128x32768.Idx) := by
    funext a
    apply Fin.ext
    match a with
    | ⟨0, _⟩ => show win0_13.index (pointOf r) 0 * 8 + 1 * h.val = h.val; rw [hi.1.1]; omega
    | ⟨1, _⟩ => show win0_13.index (pointOf r) 1 * 128 + 1 * n.val = n.val; rw [hi.1.2]; omega
    | ⟨2, _⟩ => show win0_13.index (pointOf r) 2 * 256 + 1 * (r.val % 256) = r.val; rw [hi.2]; show r.val / 256 * 256 + 1 * (r.val % 256) = r.val; omega
  rw [he] at hb
  refine Eq.trans hb ?_
  rw [Value.flushed13]
  refine Eq.trans (out13_apply _ _ (blocks_at m c (pointOf r)) (ix3 h n (placeIn r))) ?_
  rw [block9 m c (pointOf r)]
  show score (weightsAt m c) (rowAt m c (tok (pointOf r) (placeIn r)))
    (fun d => m ((c.tc : Thread nD τ).loc main_arg10) (ix3 h n d)) (256 * h.val + 0) _ = _
  rw [tok_pointOf]

/-- The scores against the second set. -/
theorem array14_apply (h : Fin 8) (n : Fin 128) (r : Fin 32768) :
    (dats m 0 c).arrAt 14 cfg0.N (ix3 h n r)
      = (score (weightsAt m c) (rowAt m c r) (fun d => m ((c.tc : Thread nD τ).loc main_arg11) (ix3 h n d)) (256 * h.val + 128)
          (by omega) : EReal) := by
  have hi := index14 (pointOf r)
  have hb := congrFun (Value.blocks14 m c (pointOf r) (flush0_14 _)) (ix3 h n (placeIn r))
  rw [View.read_apply] at hb
  have he : ((cfg0.win 14).blk (pointOf r)).view.emb (ix3 h n (placeIn r)) = (ix3 h n r : S8x128x32768.Idx) := by
    funext a
    apply Fin.ext
    match a with
    | ⟨0, _⟩ => show win0_14.index (pointOf r) 0 * 8 + 1 * h.val = h.val; rw [hi.1.1]; omega
    | ⟨1, _⟩ => show win0_14.index (pointOf r) 1 * 128 + 1 * n.val = n.val; rw [hi.1.2]; omega
    | ⟨2, _⟩ => show win0_14.index (pointOf r) 2 * 256 + 1 * (r.val % 256) = r.val; rw [hi.2]; show r.val / 256 * 256 + 1 * (r.val % 256) = r.val; omega
  rw [he] at hb
  refine Eq.trans hb ?_
  rw [Value.flushed14]
  refine Eq.trans (out14_apply _ _ (blocks_at m c (pointOf r)) (ix3 h n (placeIn r))) ?_
  rw [block10 m c (pointOf r)]
  show score (weightsAt m c) (rowAt m c (tok (pointOf r) (placeIn r)))
    (fun d => m ((c.tc : Thread nD τ).loc main_arg11) (ix3 h n d)) (256 * h.val + 128) _ = _
  rw [tok_pointOf]

end Cert.MergeIdeal.Rows
-- ==== Proof.MergeRef.lean ====
/- THE MERGE'S REFERENCE, part by part: what each of its four results holds at an index. -/
module

public import proofs.«01_k».proof.Proof.Gen.MergeReferenceIdeal.Run
public import proofs.«01_k».proof.Proof.MergeSpec
public import Idealize.ShloMosaic.Lib.Pointwise

@[expose] public section

set_option maxRecDepth 16384

noncomputable section

namespace Cert.MergeReferenceIdeal.Parts

open Idealize.ShloMosaic Idealize.ShloMosaic.TcCoe Idealize.SL.Sem
open Cert.MergeReferenceIdeal Cert.MergeReferenceIdeal.Gen
open Cert.Merging

section Parts

variable {F : FTy → Type} [FloatOps F]

/-- The gates' logistic function. -/
def gates (z : FVec F S8x4096x1024 .f32) : FVec F S8x4096x1024 .f32 :=
  Host.divf (broadcastInDim S8x4096x1024 ![] bcast_S_S8x4096x1024 (constant S_ .f32 0x3F800000#32))
    (addf (broadcastInDim S8x4096x1024 ![] bcast_S_S8x4096x1024 (constant S_ .f32 0x3F800000#32)) (Host.exp (Host.negf z)))

/-- One branch, projected and gated. -/
def branch (y : FVec F S8x4096x512 .f32) (z : FVec F S8x4096x1024 .f32) (w : FVec F S512x1024 .f32) : FVec F S8x4096x1024 .f32 :=
  mulf (gates z) (Host.dotGeneral dot_S8x4096x512_S512x1024_S8x4096x1024_2_0_01_1_n_n none y w)

/-- The residual stream after the merge. -/
def stream (x : FVec F S8x4096x1024 .f32) (u : FVec F S8x4096x1024 .f32) (w : FVec F S1024x1024 .f32) : FVec F S8x4096x1024 .f32 :=
  addf x (Host.dotGeneral dot_S8x4096x1024_S1024x1024_S8x4096x1024_2_0_01_1_n_n none u w)

/-- One over each row's root mean square. -/
def scale (x : FVec F S8x4096x1024 .f32) : FVec F S8x4096x1 .f32 :=
  Host.rsqrt (addf (Host.divf
      (broadcastInDim S8x4096x1 ![0, 1] bcast_S8x4096_S8x4096x1_0_1
        (Host.reduceAdd (mulf x x) (constant S_ .f32 0x00000000#32) reducesTo_S8x4096x1024_S8x4096_d2 h_S_))
      (broadcastInDim S8x4096x1 ![] bcast_S_S8x4096x1 (constant S_ .f32 0x44800000#32)))
    (broadcastInDim S8x4096x1 ![] bcast_S_S8x4096x1 (constant S_ .f32 0x358637BD#32)))

/-- The rows over their root mean squares, scaled. -/
def norms (x : FVec F S8x4096x1024 .f32) (g : FVec F S1024 .f32) : FVec F S8x4096x1024 .f32 :=
  mulf (mulf x (broadcastInDim S8x4096x1024 ![0, 1, 2] bcast_S8x4096x1_S8x4096x1024_0_1_2 (scale x)))
    (broadcastInDim S8x4096x1024 ![0, 1, 2] bcast_S1x1x1024_S8x4096x1024_0_1_2
      (broadcastInDim S1x1x1024 ![2] bcast_S1024_S1x1x1024_2 g))

/-- An array of tokens, one sequence after the other. -/
def flat (x : FVec F S8x4096x1024 .f32) : FVec F S32768x1024 .f32 := shapeCast S32768x1024 x shapeCasts_S8x4096x1024_S32768x1024

/-- The queries, head by head, in their two halves. -/
def queries (h : FVec F S32768x1024 .f32) (w : FVec F S1024x2048 .f32) : FVec F S32768x8x2x128 .f32 :=
  shapeCast S32768x8x2x128 (Host.dotGeneral dot_S32768x1024_S1024x2048_S32768x2048_1_0_0_1_n_n none h w)
    shapeCasts_S32768x2048_S32768x8x2x128

/-- The first half of each head's queries, -/
def half1 (q : FVec F S32768x8x2x128 .f32) : FVec F S32768x8x128 .f32 :=
  shapeCast S32768x8x128 (extractStridedSlice S32768x8x1x128 ![0, 0, 0, 0] q slices_S32768x8x2x128_S32768x8x1x128_0_0_0_0)
    shapeCasts_S32768x8x1x128_S32768x8x128

/-- and the second. -/
def half2 (q : FVec F S32768x8x2x128 .f32) : FVec F S32768x8x128 .f32 :=
  shapeCast S32768x8x128 (extractStridedSlice S32768x8x1x128 ![0, 0, 1, 0] q slices_S32768x8x2x128_S32768x8x1x128_0_0_1_0)
    shapeCasts_S32768x8x1x128_S32768x8x128

/-- The scores of the keys `sk`. -/
def scores (sk : FVec F S8x128x128 .f32) (q : FVec F S32768x8x128 .f32) : FVec F S8x128x32768 .f32 :=
  transpose S8x128x32768 [1, 2, 0] (transpose S32768x8x128 [2, 0, 1]
    (Host.dotGeneral dot_S8x128x128_S32768x8x128_S8x128x32768_2_2_1_0_0_1 none sk q)
    transposes_S8x128x32768_S32768x8x128_2_0_1) transposes_S32768x8x128_S8x128x32768_1_2_0

variable (m : (ℓ : Loc nD τ sig) → Buf (Elt F) ℓ) (c : Dev nD)

/-- The residual stream of the arguments, -/
def streamOf : FVec F S8x4096x1024 .f32 :=
  stream (m ((c.tc : Thread nD τ).loc main_arg0))
    (addf (branch (m ((c.tc : Thread nD τ).loc main_arg1)) (m ((c.tc : Thread nD τ).loc main_arg3)) (m ((c.tc : Thread nD τ).loc main_arg5)))
      (branch (m ((c.tc : Thread nD τ).loc main_arg2)) (m ((c.tc : Thread nD τ).loc main_arg4)) (m ((c.tc : Thread nD τ).loc main_arg6))))
    (m ((c.tc : Thread nD τ).loc main_arg7))

/-- its norms, -/
def normsOf : FVec F S32768x1024 .f32 := flat (norms (streamOf m c) (m ((c.tc : Thread nD τ).loc main_arg8)))

/-- and its queries. -/
def queriesOf : FVec F S32768x8x2x128 .f32 := queries (normsOf m c) (m ((c.tc : Thread nD τ).loc main_arg9))

theorem res2_eq : Value.res_main_v45 m c = scores (m ((c.tc : Thread nD τ).loc main_arg10)) (half1 (queriesOf m c)) := rfl

theorem res3_eq : Value.res_main_v46 m c = scores (m ((c.tc : Thread nD τ).loc main_arg11)) (half2 (queriesOf m c)) := rfl

end Parts

theorem gates_apply (z : FVec Ideal S8x4096x1024 .f32) (b : Fin 8) (s : Fin 4096) (k : Fin 1024) :
    gates z (ix3 b s k) = gate (z (ix3 b s k)) := by
  unfold gates
  pointwise
  rfl

theorem branch_apply (y : FVec Ideal S8x4096x512 .f32) (z : FVec Ideal S8x4096x1024 .f32) (w : FVec Ideal S512x1024 .f32)
    (b : Fin 8) (s : Fin 4096) (k : Fin 1024) :
    branch y z w (ix3 b s k) = gate (z (ix3 b s k)) * ∑ j : Fin 512, y (ix3 b s j) * w (ix2 j k) := by
  unfold branch
  refine Eq.trans (ValueIdx.mulf_apply _ _ _) (congrArg₂ (HMul.hMul (α := EReal)) (gates_apply z b s k) ?_)
  pointwise

theorem stream_apply (x u : FVec Ideal S8x4096x1024 .f32) (w : FVec Ideal S1024x1024 .f32)
    (b : Fin 8) (s : Fin 4096) (k : Fin 1024) :
    stream x u w (ix3 b s k) = x (ix3 b s k) + ∑ j : Fin 1024, u (ix3 b s j) * w (ix2 j k) := by
  unfold stream
  pointwise

theorem scale_apply (x : FVec Ideal S8x4096x1024 .f32) (b : Fin 8) (s : Fin 4096) :
    scale x (ix3 b s 0)
      = Ideal.rsqrt (Ideal.div (∑ k : Fin 1024, x (ix3 b s k) * x (ix3 b s k)) (Ideal.ofBits .f32 0x44800000#32)
        + Ideal.ofBits .f32 0x358637BD#32) := by
  unfold scale
  pointwise

theorem norms_apply (x : FVec Ideal S8x4096x1024 .f32) (g : FVec Ideal S1024 .f32) (b : Fin 8) (s : Fin 4096) (k : Fin 1024) :
    norms x g (ix3 b s k) = x (ix3 b s k) * scale x (ix3 b s 0) * g (ix1 k) := by
  unfold norms
  pointwise

theorem queries_apply (h : FVec Ideal S32768x1024 .f32) (w : FVec Ideal S1024x2048 .f32) (r : Fin 32768) (e : Fin 8) (p : Fin 2)
    (d : Fin 128) :
    queries h w (ix4 r e p d) = ∑ k : Fin 1024, h (ix2 r k) * w (ix2 k ⟨e.val * 256 + p.val * 128 + d.val, by omega⟩) := by
  unfold queries
  refine (shapeCast_apply _ _ (ix4 r e p d) (ix2 r (⟨e.val * 256 + p.val * 128 + d.val, by omega⟩ : Fin 2048)) ?_).trans ?_
  · rw [Shape.rowMajor_val_two, Shape.rowMajor_val_four]
    show r.val * 2048 + (e.val * 256 + p.val * 128 + d.val) = ((r.val * 8 + e.val) * 2 + p.val) * 128 + d.val
    omega
  · pointwise

theorem half1_apply (q : FVec Ideal S32768x8x2x128 .f32) (r : Fin 32768) (e : Fin 8) (d : Fin 128) :
    half1 q (ix3 r e d) = q (ix4 r e 0 d) := by
  unfold half1
  pointwise

theorem half2_apply (q : FVec Ideal S32768x8x2x128 .f32) (r : Fin 32768) (e : Fin 8) (d : Fin 128) :
    half2 q (ix3 r e d) = q (ix4 r e 1 d) := by
  unfold half2
  pointwise

theorem scores_apply (sk : FVec Ideal S8x128x128 .f32) (q : FVec Ideal S32768x8x128 .f32) (e : Fin 8) (n : Fin 128) (r : Fin 32768) :
    scores sk q (ix3 e n r) = ∑ d : Fin 128, sk (ix3 e n d) * q (ix3 r e d) := by
  unfold scores
  pointwise

/-! ### The results, token by token -/

section Results

variable (m : (ℓ : Loc nD τ sig) → Buf (Elt Ideal) ℓ) (c : Dev nD)

/-- Device `c`'s token number `r`, -/
def rowAt (r : Fin 32768) : Row :=
  token (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (seqAt r) (placeAt r)

/-- and its weights. -/
def weightsAt : Weights :=
  weights (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9))

theorem streamOf_apply (r : Fin 32768) (k : Fin 1024) :
    streamOf m c (ix3 (seqAt r) (placeAt r) k) = resid (weightsAt m c) (rowAt m c r) k := by
  unfold streamOf
  refine (stream_apply _ _ _ _ _ k).trans ?_
  refine congrArg (HAdd.hAdd (α := EReal) _) (Finset.sum_congr rfl fun j _ => congrArg (HMul.hMul (α := EReal) · _) ?_)
  refine Eq.trans (ValueIdx.addf_apply _ _ _) ?_
  exact congrArg₂ (HAdd.hAdd (α := EReal)) (branch_apply _ _ _ _ _ j) (branch_apply _ _ _ _ _ j)

theorem flat_streamOf_apply (r : Fin 32768) (k : Fin 1024) :
    flat (streamOf m c) (ix2 r k) = resid (weightsAt m c) (rowAt m c r) k :=
  (flat_apply _ _ r k).trans (streamOf_apply m c r k)

theorem normsOf_apply (r : Fin 32768) (k : Fin 1024) :
    normsOf m c (ix2 r k) = normed (weightsAt m c) (rowAt m c r) k := by
  unfold normsOf
  refine (flat_apply _ _ r k).trans ((norms_apply _ _ _ _ k).trans ?_)
  rw [scale_apply]
  simp only [streamOf_apply]
  rfl

theorem queriesOf_apply (r : Fin 32768) (e : Fin 8) (p : Fin 2) (d : Fin 128) :
    queriesOf m c (ix4 r e p d) = query (weightsAt m c) (rowAt m c r) ⟨e.val * 256 + p.val * 128 + d.val, by omega⟩ := by
  unfold queriesOf
  refine (queries_apply _ _ r e p d).trans ?_
  exact Finset.sum_congr rfl fun k _ => congrArg (HMul.hMul (α := EReal) · _) (normsOf_apply m c r k)

theorem res2_apply (e : Fin 8) (n : Fin 128) (r : Fin 32768) :
    Value.res_main_v45 m c (ix3 e n r)
      = (score (weightsAt m c) (rowAt m c r) (fun d => m ((c.tc : Thread nD τ).loc main_arg10) (ix3 e n d)) (256 * e.val + 0)
          (by omega) : EReal) := by
  rw [res2_eq]
  refine (scores_apply _ _ e n r).trans ?_
  unfold score
  refine Finset.sum_congr rfl fun d _ => congrArg (HMul.hMul (α := EReal) _) ?_
  refine (half1_apply _ r e d).trans ((queriesOf_apply m c r e 0 d).trans (congrArg _ (Fin.ext ?_)))
  show e.val * 256 + 0 * 128 + d.val = 256 * e.val + 0 + d.val
  omega

theorem res3_apply (e : Fin 8) (n : Fin 128) (r : Fin 32768) :
    Value.res_main_v46 m c (ix3 e n r)
      = (score (weightsAt m c) (rowAt m c r) (fun d => m ((c.tc : Thread nD τ).loc main_arg11) (ix3 e n d)) (256 * e.val + 128)
          (by omega) : EReal) := by
  rw [res3_eq]
  refine (scores_apply _ _ e n r).trans ?_
  unfold score
  refine Finset.sum_congr rfl fun d _ => congrArg (HMul.hMul (α := EReal) _) ?_
  refine (half2_apply _ r e d).trans ((queriesOf_apply m c r e 1 d).trans (congrArg _ (Fin.ext ?_)))
  show e.val * 256 + 1 * 128 + d.val = 256 * e.val + 128 + d.val
  omega

end Results

end Cert.MergeReferenceIdeal.Parts
-- ==== Proof.MergeEqual.lean ====
/- THE MERGE, BOTH WAYS: the kernel's four arrays are the reference's. -/
module

public import proofs.«01_k».proof.Proof.MergeArray
public import proofs.«01_k».proof.Proof.MergeRef

@[expose] public section

set_option maxRecDepth 16384

noncomputable section

namespace Cert.Merging

open Idealize.ShloMosaic Idealize.ShloMosaic.TcCoe Idealize.SL.Sem

variable {m : (ℓ : Loc Cert.MergeIdeal.nD Cert.MergeIdeal.τ Cert.MergeIdeal.sig) → Buf (Elt Ideal) ℓ}
  {m' : (ℓ : Loc Cert.MergeReferenceIdeal.nD Cert.MergeReferenceIdeal.τ Cert.MergeReferenceIdeal.sig) → Buf (Elt Ideal) ℓ}
  {c : Dev Cert.MergeIdeal.nD}

/-- The two memories agree on device `c`'s arguments. -/
def Agree (m : (ℓ : Loc Cert.MergeIdeal.nD Cert.MergeIdeal.τ Cert.MergeIdeal.sig) → Buf (Elt Ideal) ℓ)
    (m' : (ℓ : Loc Cert.MergeReferenceIdeal.nD Cert.MergeReferenceIdeal.τ Cert.MergeReferenceIdeal.sig) → Buf (Elt Ideal) ℓ)
    (c : Dev Cert.MergeIdeal.nD) : Prop :=
  m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
    ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
    ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
    ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
    ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
    ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
    ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
    ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
    ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
    ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
    ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
    ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)

theorem rowAt_eq (h : Agree m m' c) (r : Fin 32768) :
    Cert.MergeReferenceIdeal.Parts.rowAt m' c r = Cert.MergeIdeal.Rows.rowAt m c r := by
  obtain ⟨e0, e1, e2, e3, e4, -⟩ := h
  unfold Cert.MergeReferenceIdeal.Parts.rowAt Cert.MergeIdeal.Rows.rowAt
  rw [e0, e1, e2, e3, e4]

theorem weightsAt_eq (h : Agree m m' c) :
    Cert.MergeReferenceIdeal.Parts.weightsAt m' c = Cert.MergeIdeal.Rows.weightsAt m c := by
  obtain ⟨-, -, -, -, -, e5, e6, e7, e8, e9, -⟩ := h
  unfold Cert.MergeReferenceIdeal.Parts.weightsAt Cert.MergeIdeal.Rows.weightsAt
  rw [e5, e6, e7, e8, e9]

/-- The residual stream. -/
theorem stream_eq (h : Agree m m' c) :
    Cert.MergeReferenceIdeal.Parts.flat (Cert.MergeReferenceIdeal.Parts.streamOf m' c)
      = (Cert.MergeIdeal.Gen.dats m 0 c).arrAt 11 Cert.MergeIdeal.cfg0.N := by
  have p (r : Fin 32768) (k : Fin 1024) :
      (Cert.MergeReferenceIdeal.Parts.flat (Cert.MergeReferenceIdeal.Parts.streamOf m' c)) (ix2 r k)
        = ((Cert.MergeIdeal.Gen.dats m 0 c).arrAt 11 Cert.MergeIdeal.cfg0.N) (ix2 r k) := by
    refine Eq.trans (Cert.MergeReferenceIdeal.Parts.flat_streamOf_apply m' c r k) ?_
    rw [rowAt_eq h, weightsAt_eq h]
    exact (Cert.MergeIdeal.Rows.array11_apply m c r k).symm
  funext i
  have hi : i = ix2 (i 0) (i 1) := by
    funext a
    match a with
    | ⟨0, _⟩ => rfl
    | ⟨1, _⟩ => rfl
  rw [hi]
  exact p (i 0) (i 1)

/-- The normed rows. -/
theorem norms_eq (h : Agree m m' c) :
    truncf .bf16 (Cert.MergeReferenceIdeal.Parts.normsOf m' c) Cert.MergeReferenceIdeal.Gen.bitsLt_bf16_f32
      = (Cert.MergeIdeal.Gen.dats m 0 c).arrAt 12 Cert.MergeIdeal.cfg0.N := by
  have p (r : Fin 32768) (k : Fin 1024) :
      (truncf .bf16 (Cert.MergeReferenceIdeal.Parts.normsOf m' c) Cert.MergeReferenceIdeal.Gen.bitsLt_bf16_f32) (ix2 r k)
        = ((Cert.MergeIdeal.Gen.dats m 0 c).arrAt 12 Cert.MergeIdeal.cfg0.N) (ix2 r k) := by
    refine Eq.trans (Cert.MergeReferenceIdeal.Parts.normsOf_apply m' c r k) ?_
    rw [rowAt_eq h, weightsAt_eq h]
    exact (Cert.MergeIdeal.Rows.array12_apply m c r k).symm
  funext i
  have hi : i = ix2 (i 0) (i 1) := by
    funext a
    match a with
    | ⟨0, _⟩ => rfl
    | ⟨1, _⟩ => rfl
  rw [hi]
  exact p (i 0) (i 1)

/-- The first scores. -/
theorem first_eq (h : Agree m m' c) :
    Cert.MergeReferenceIdeal.Value.res_main_v45 m' c
      = (Cert.MergeIdeal.Gen.dats m 0 c).arrAt 13 Cert.MergeIdeal.cfg0.N := by
  have p (a : Fin 8) (n : Fin 128) (r : Fin 32768) :
      Cert.MergeReferenceIdeal.Value.res_main_v45 m' c (ix3 a n r)
        = ((Cert.MergeIdeal.Gen.dats m 0 c).arrAt 13 Cert.MergeIdeal.cfg0.N) (ix3 a n r) := by
    refine Eq.trans (Cert.MergeReferenceIdeal.Parts.res2_apply m' c a n r) ?_
    rw [rowAt_eq h, weightsAt_eq h]
    obtain ⟨-, -, -, -, -, -, -, -, -, -, e, -⟩ := h
    rw [e]
    exact (Cert.MergeIdeal.Rows.array13_apply m c a n r).symm
  funext i
  have hi : i = ix3 (i 0) (i 1) (i 2) := by
    funext a
    match a with
    | ⟨0, _⟩ => rfl
    | ⟨1, _⟩ => rfl
    | ⟨2, _⟩ => rfl
  rw [hi]
  exact p (i 0) (i 1) (i 2)

/-- The second scores. -/
theorem second_eq (h : Agree m m' c) :
    Cert.MergeReferenceIdeal.Value.res_main_v46 m' c
      = (Cert.MergeIdeal.Gen.dats m 0 c).arrAt 14 Cert.MergeIdeal.cfg0.N := by
  have p (a : Fin 8) (n : Fin 128) (r : Fin 32768) :
      Cert.MergeReferenceIdeal.Value.res_main_v46 m' c (ix3 a n r)
        = ((Cert.MergeIdeal.Gen.dats m 0 c).arrAt 14 Cert.MergeIdeal.cfg0.N) (ix3 a n r) := by
    refine Eq.trans (Cert.MergeReferenceIdeal.Parts.res3_apply m' c a n r) ?_
    rw [rowAt_eq h, weightsAt_eq h]
    obtain ⟨-, -, -, -, -, -, -, -, -, -, -, e⟩ := h
    rw [e]
    exact (Cert.MergeIdeal.Rows.array14_apply m c a n r).symm
  funext i
  have hi : i = ix3 (i 0) (i 1) (i 2) := by
    funext a
    match a with
    | ⟨0, _⟩ => rfl
    | ⟨1, _⟩ => rfl
    | ⟨2, _⟩ => rfl
  rw [hi]
  exact p (i 0) (i 1) (i 2)

end Cert.Merging
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeReferenceIdeal.Run
public import proofs.«01_k».proof.Proof.Gen.MergeReferenceIdeal
public import proofs.«01_k».proof.Proof.Array
public import proofs.«01_k».proof.Proof.Finite
public import proofs.«01_k».proof.Proof.RefValue
public import proofs.«01_k».proof.Proof.MergeEqual
public import Idealize.ShloMosaic.Adequacy
public import Idealize.ShloMosaic.Init

@[expose] public section

noncomputable section

namespace Cert.Proof

open Idealize.ShloMosaic Idealize.SL.Sem Cert.Kernel

/-- The two ideal programs' results, from memories that agree on the arguments, where every input is a real. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : @Cert.Pre_KernelIdeal_finite Cert.Pre_finite.Attn.facts m)
    (e0 : m' ((c.tc : Thread Cert.ReferenceIdeal.nD Cert.ReferenceIdeal.τ).loc Cert.ReferenceIdeal.main_arg0) = Cert.KernelIdeal.Attn.argQ m c)
    (e1 : m' ((c.tc : Thread Cert.ReferenceIdeal.nD Cert.ReferenceIdeal.τ).loc Cert.ReferenceIdeal.main_arg1) = Cert.KernelIdeal.Attn.argKv m c)
    (e2 : m' ((c.tc : Thread Cert.ReferenceIdeal.nD Cert.ReferenceIdeal.τ).loc Cert.ReferenceIdeal.main_arg2) = Cert.KernelIdeal.Attn.argKpe m c) :
    Cert.ReferenceIdeal.Value.res_main_v34 m' c = (Cert.KernelIdeal.Gen.dats m 0 c).arrAt 4 Cert.KernelIdeal.cfg0.N := by
  obtain ⟨hq, hkv, hkpe⟩ := @Cert.Pre_finite.Attn.finite Cert.Pre_finite.Attn.facts _ _ _ (h c)
  rw [Cert.ReferenceIdeal.Attn.res_eq, e0, e1, e2]
  funext i
  have hi : i = ix3 (i 0) (i 1) (i 2) := by
    funext a
    match a with
    | ⟨0, _⟩ => rfl
    | ⟨1, _⟩ => rfl
    | ⟨2, _⟩ => rfl
  rw [hi]
  exact (Cert.ReferenceIdeal.Attn.reference_finite hq hkv hkpe (i 0) (i 1) (i 2)).trans
    (Cert.KernelIdeal.Attn.array_apply m c hq hkv hkpe (i 0) (i 1) (i 2)).symm

/-- The reference runs, keeps its arguments, and has no counter that could be left raised. -/
theorem reference_quiet (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => (h c).2, sem_eq_zero_of_no_sems (by decide) r.2⟩)
    (Cert.ReferenceIdeal.Value.run m ρ)

/-- So does the merge's reference. -/
theorem merge_quiet (m : (ℓ : Loc Cert.MergeReferenceIdeal.nD Cert.MergeReferenceIdeal.τ Cert.MergeReferenceIdeal.sig) → Buf (Elt Ideal) ℓ)
    (ρ : Dev Cert.MergeReferenceIdeal.nD → PrngReg) :
    θ_run (Cert.MergeReferenceIdeal.defs (F := Ideal)) (onTc (τ := Cert.MergeReferenceIdeal.τ) (Cert.MergeReferenceIdeal.main (F := Ideal))) ⟨m, fun _ => 0, ρ⟩
      (fun r => (∀ c : Dev Cert.MergeReferenceIdeal.nD,
        r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
        ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
        ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
        ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
        ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
        ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
        ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
        ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
        ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
        ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
        ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
        ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11))
        ∧ r.2.sem = fun _ => 0) :=
  (θ_run Cert.MergeReferenceIdeal.defs _ _).mono (fun r h => ⟨fun c => (h c).2.2.2.2, sem_eq_zero_of_no_sems (by decide) r.2⟩)
    (Cert.MergeReferenceIdeal.Value.run m ρ)

theorem claim : Cert.Claim :=
  ⟨Cert.Kernel.Gen.facts, Cert.KernelIdeal.Gen.facts, Cert.ReferenceIdeal.Gen.facts, Cert.Merge.Gen.facts, Cert.MergeIdeal.Gen.facts,
    Cert.MergeReferenceIdeal.Gen.facts, Cert.Pre_finite.Attn.facts,
    fun m ρ _ => Cert.Kernel.Gen.frame m ρ,
    fun m ρ _ => Cert.KernelIdeal.Gen.frame m ρ,
    fun m ρ _ => Cert.KernelIdeal.Gen.frame m ρ,
    fun m ρ _ => reference_quiet m ρ,
    fun m ρ _ => reference_quiet m ρ,
    fun m ρ _ => Cert.Merge.Gen.frame m ρ,
    fun m ρ _ => Cert.MergeIdeal.Gen.frame m ρ,
    fun m ρ _ => merge_quiet m ρ,
    ⟨IdealRules.named_const.statement Cert.KernelIdeal.κ "log2e_scale" .f32 0x3E16C740#32 (((Real.log 2)⁻¹ * (Real.sqrt 96)⁻¹ : ℝ) : EReal) rfl,
      IdealRules.named_const.statement Cert.KernelIdeal.κ "mask" .f32 0xF149F2CA#32 ⊥ rfl⟩,
    fun m ρ m' ρ' hpre hargs =>
      ⟨fun c => (Cert.KernelIdeal.Gen.dats m 0 c).arrAt 4 Cert.KernelIdeal.cfg0.N,
        Cert.KernelIdeal.Value.run_blocks m ρ,
        (θ_run (Cert.ReferenceIdeal.defs (F := Ideal)) _ _).mono
          (fun _ h c => ⟨(h c).1.trans (results_eq m m' c hpre (hargs c).1 (hargs c).2.1 (hargs c).2.2), (h c).2⟩)
          (Cert.ReferenceIdeal.Value.run m' ρ')⟩,
    trivial,
    fun m ρ m' ρ' _ hargs =>
      ⟨fun c => (Cert.MergeIdeal.Gen.dats m 0 c).arrAt 11 Cert.MergeIdeal.cfg0.N,
        fun c => (Cert.MergeIdeal.Gen.dats m 0 c).arrAt 12 Cert.MergeIdeal.cfg0.N,
        fun c => (Cert.MergeIdeal.Gen.dats m 0 c).arrAt 13 Cert.MergeIdeal.cfg0.N,
        fun c => (Cert.MergeIdeal.Gen.dats m 0 c).arrAt 14 Cert.MergeIdeal.cfg0.N,
        Cert.MergeIdeal.Value.run_blocks m ρ,
        (θ_run (Cert.MergeReferenceIdeal.defs (F := Ideal)) _ _).mono
          (fun _ h c => ⟨(h c).1.trans (Cert.Merging.stream_eq (hargs c)), (h c).2.1.trans (Cert.Merging.norms_eq (hargs c)),
            (h c).2.2.1.trans (Cert.Merging.first_eq (hargs c)), (h c).2.2.2.1.trans (Cert.Merging.second_eq (hargs c)),
            (h c).2.2.2.2⟩)
          (Cert.MergeReferenceIdeal.Value.run m' ρ')⟩⟩

end Cert.Proof

end
